-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![16, 256, 512]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v90) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S256x16 : Shape := ⟨2, ![256, 16]⟩
abbrev S1024x1 : Shape := ⟨2, ![1024, 1]⟩
abbrev S4x256x512 : Shape := ⟨3, ![4, 256, 512]⟩
abbrev S1024x512 : Shape := ⟨2, ![1024, 512]⟩
abbrev S208x512 : Shape := ⟨2, ![208, 512]⟩
abbrev S3x208x512 : Shape := ⟨3, ![3, 208, 512]⟩
abbrev S3 : Shape := ⟨1, ![3]⟩
abbrev S_ : Shape := ⟨0, ![]⟩
abbrev S1024x16 : Shape := ⟨2, ![1024, 16]⟩
abbrev S1024x1024 : Shape := ⟨2, ![1024, 1024]⟩
abbrev S1024 : Shape := ⟨1, ![1024]⟩
abbrev S1024x208 : Shape := ⟨2, ![1024, 208]⟩
abbrev S208x256 : Shape := ⟨2, ![208, 256]⟩
abbrev S52x256 : Shape := ⟨2, ![52, 256]⟩
abbrev S1x256x512 : Shape := ⟨3, ![1, 256, 512]⟩
abbrev S256x512 : Shape := ⟨2, ![256, 512]⟩
abbrev S52x512 : Shape := ⟨2, ![52, 512]⟩
abbrev S1 : Shape := ⟨1, ![1]⟩
abbrev S1x208x512 : Shape := ⟨3, ![1, 208, 512]⟩

abbrev nBuf : Space → Nat
  | .hbm => 5
  | .vmem => 6
  | .smem => 0
  | _ => 0

abbrev bufTy : (tb : Table) → Fin (tcTables nBuf tb) → BufTy
  | .hbm, ⟨0, _⟩ => ⟨S1024x256, .f32⟩
  | .hbm, ⟨1, _⟩ => ⟨S256x16, .f32⟩
  | .hbm, ⟨2, _⟩ => ⟨S1024x1, .i32⟩
  | .hbm, ⟨3, _⟩ => ⟨S4x256x512, .f32⟩
  | .hbm, ⟨4, _⟩ => ⟨S1024x512, .f32⟩
  | .local _ .vmem, ⟨0, _⟩ => ⟨S1024x256, .f32⟩
  | .local _ .vmem, ⟨1, _⟩ => ⟨S1024x1, .i32⟩
  | .local _ .vmem, ⟨2, _⟩ => ⟨S4x256x512, .f32⟩
  | .local _ .vmem, ⟨3, _⟩ => ⟨S1024x512, .f32⟩
  | .local _ .vmem, ⟨4, _⟩ => ⟨S208x512, .bf16⟩
  | .local _ .vmem, ⟨5, _⟩ => ⟨S3x208x512, .bf16⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_7 : BitVec 32 := 1#32
  let v11 : BitVec 32 := Scalar.muli v5 c1_i32_7
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_9 : BitVec 32 := 1#32
  let v13 : BitVec 32 := Scalar.muli v7 c1_i32_9
  let v14 : BitVec 32 := Scalar.addi c0_i32_10 v13
  v14.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_12 : BitVec 32 := 1#32
  let v15 : BitVec 32 := Scalar.muli v9 c1_i32_12
  let v16 : BitVec 32 := Scalar.addi c0_i32_13 v15
  v16.toNat
def k0_dev4 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_51 : BitVec 32 := 1#32
  let v131 : BitVec 32 := Scalar.muli v7 c1_i32_51
  let v132 : BitVec 32 := Scalar.addi c0_i32_52 v131
  v132.toNat
def k0_dev5 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_58 : BitVec 32 := 1#32
  let v139 : BitVec 32 := Scalar.muli v5 c1_i32_58
  let v140 : BitVec 32 := Scalar.addi c0_i32_59 v139
  v140.toNat
def k0_dev6 (d0 : Dev nD) : Nat :=
  let c0_i32_66 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_65 : BitVec 32 := 1#32
  let v147 : BitVec 32 := Scalar.muli v9 c1_i32_65
  let v148 : BitVec 32 := Scalar.addi c0_i32_66 v147
  v148.toNat
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x256 : Shape := ⟨2, ![1024, 256]⟩
abbrev S256x16 : Shape := ⟨2, ![256, 16]⟩
abbrev S1024x1 : Shape := ⟨2, ![1024, 1]⟩
abbrev S16x256x512 : Shape := ⟨3, ![16, 256, 512]⟩
abbrev S16 : Shape := ⟨1, ![16]⟩
abbrev S1x16 : Shape := ⟨2, ![1, 16]⟩
abbrev S1024x16 : Shape := ⟨2, ![1024, 16]⟩
abbrev S_ : Shape := ⟨0, ![]⟩
abbrev S1024x512 : Shape := ⟨2, ![1024, 512]⟩
abbrev S1x256x512 : Shape := ⟨3, ![1, 256, 512]⟩
abbrev S256x512 : Shape := ⟨2, ![256, 512]⟩

abbrev nBuf : Space → Nat
  | .hbm => 115
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S256x16, .f32⟩
  | .hbm, ⟨2, _⟩ => ⟨S1024x1, .i32⟩
  | .hbm, ⟨3, _⟩ => ⟨S16x256x512, .f32⟩
  | .hbm, ⟨4, _⟩ => ⟨S16, .i32⟩
  | .hbm, ⟨5, _⟩ => ⟨S1x16, .i32⟩
  | .hbm, ⟨6, _⟩ => ⟨S1024x16, .i32⟩
  | .hbm, ⟨7, _⟩ => ⟨S1024x16, .i32⟩
  | .hbm, ⟨8, _⟩ => ⟨S1024x16, .i1⟩
  | .hbm, ⟨9, _⟩ => ⟨S1024x16, .i32⟩
  | .hbm, ⟨10, _⟩ => ⟨S_, .i32⟩
  | .hbm, ⟨11, _⟩ => ⟨S_, .i32⟩
  | .hbm, ⟨12, _⟩ => ⟨S1024x16, .i32⟩
  | .hbm, ⟨13, _⟩ => ⟨S_, .i32⟩
  | .hbm, ⟨14, _⟩ => ⟨S1024x16, .i32⟩
  | .hbm, ⟨15, _⟩ => ⟨S1024x16, .i1⟩
  | .hbm, ⟨16, _⟩ => ⟨S1024x16, .i1⟩
  | .hbm, ⟨17, _⟩ => ⟨S_, .f32⟩
  | .hbm, ⟨18, _⟩ => ⟨S1024x512, .f32⟩
  | .hbm, ⟨19, _⟩ => ⟨S1x256x512, .f32⟩
  | .hbm, ⟨20, _⟩ => ⟨S256x512, .f32⟩
  | .hbm, ⟨21, _⟩ => ⟨S1024x512, .f32⟩
  | .hbm, ⟨22, _⟩ => ⟨S1024x1, .i1⟩
  | .hbm, ⟨23, _⟩ => ⟨S1024x512, .i1⟩
  | .hbm, ⟨24, _⟩ => ⟨S1024x512, .f32⟩
  | .hbm, ⟨25, _⟩ => ⟨S1x256x512, .f32⟩
  | .hbm, ⟨26, _⟩ => ⟨S256x512, .f32⟩
  | .hbm, ⟨27, _⟩ => ⟨S1024x512, .f32⟩
  | .hbm, ⟨28, _⟩ => ⟨S1024x1, .i1⟩
  | .hbm, ⟨29, _⟩ => ⟨S1024x512, .i1⟩
  | .hbm, ⟨30, _⟩ => ⟨S1024x512, .f32⟩
  | .hbm, ⟨31, _⟩ => ⟨S1x256x512, .f32⟩
  | .hbm, ⟨32, _⟩ => ⟨S256x512, .f32⟩
  | .hbm, ⟨33, _⟩ => ⟨S1024x512, .f32⟩
  | .hbm, ⟨34, _⟩ => ⟨S1024x1, .i1⟩
  | .hbm, ⟨35, _⟩ => ⟨S1024x512, .i1⟩
  | .hbm, ⟨36, _⟩ => ⟨S1024x512, .f32⟩
  | .hbm, ⟨37, _⟩ => ⟨S1x256x512, .f32⟩
  | .hbm, ⟨38, _⟩ => ⟨S256x512, .f32⟩
  | .hbm, ⟨39, _⟩ => ⟨S1024x512, .f32⟩
  | .hbm, ⟨40, _⟩ => ⟨S1024x1, .i1⟩
  | .hbm, ⟨41, _⟩ => ⟨S1024x512, .i1⟩
  | .hbm, ⟨42, _⟩ => ⟨S1024x512, .f32⟩
  | .hbm, ⟨43, _⟩ => ⟨S1x256x512, .f32⟩
  | .hbm, ⟨44, _⟩ => ⟨S256x512, .f32⟩
  | .hbm, ⟨45, _⟩ => ⟨S1024x512, .f32⟩
  | .hbm, ⟨46, _⟩ => ⟨S1024x1, .i1⟩
  | .hbm, ⟨47, _⟩ => ⟨S1024x512, .i1⟩
  | .hbm, ⟨48, _⟩ => ⟨S1024x512, .f32⟩
  | .hbm, ⟨49, _⟩ => ⟨S1x256x512, .f32⟩
  | .hbm, ⟨50, _⟩ => ⟨S256x512, .f32⟩
  | .hbm, ⟨51, _⟩ => ⟨S1024x512, .f32⟩
  | .hbm, ⟨52, _⟩ => ⟨S1024x1, .i1⟩
  | .hbm, ⟨53, _⟩ => ⟨S1024x512, .i1⟩
  | .hbm, ⟨54, _⟩ => ⟨S1024x512, .f32⟩
  | .hbm, ⟨55, _⟩ => ⟨S1x256x512, .f32⟩
  | .hbm, ⟨56, _⟩ => ⟨S256x512, .f32⟩
  | .hbm, ⟨57, _⟩ => ⟨S1024x512, .f32⟩
  | .hbm, ⟨58, _⟩ => ⟨S1024x1, .i1⟩
  | .hbm, ⟨59, _⟩ => ⟨S1024x512, .i1⟩
  | .hbm, ⟨60, _⟩ => ⟨S1024x512, .f32⟩
  | .hbm, ⟨61, _⟩ => ⟨S1x256x512, .f32⟩
  | .hbm, ⟨62, _⟩ => ⟨S256x512, .f32⟩
  | .hbm, ⟨63, _⟩ => ⟨S1024x512, .f32⟩
  | .hbm, ⟨64, _⟩ => ⟨S1024x1, .i1⟩
  | .hbm, ⟨65, _⟩ => ⟨S1024x512, .i1⟩
  | .hbm, ⟨66, _⟩ => ⟨S1024x512, .f32⟩
  | .hbm, ⟨67, _⟩ => ⟨S1x256x512, .f32⟩
  | .hbm, ⟨68, _⟩ => ⟨S256x512, .f32⟩
  | .hbm, ⟨69, _⟩ => ⟨S1024x512, .f32⟩
  | .hbm, ⟨70, _⟩ => ⟨S1024x1, .i1⟩
  | .hbm, ⟨71, _⟩ => ⟨S1024x512, .i1⟩
  | .hbm, ⟨72, _⟩ => ⟨S1024x512, .f32⟩
  | .hbm, ⟨73, _⟩ => ⟨S1x256x512, .f32⟩
  | .hbm, ⟨74, _⟩ => ⟨S256x512, .f32⟩
  | .hbm, ⟨75, _⟩ => ⟨S1024x512, .f32⟩
  | .hbm, ⟨76, _⟩ => ⟨S1024x1, .i1⟩
  | .hbm, ⟨77, _⟩ => ⟨S1024x512, .i1⟩
  | .hbm, ⟨78, _⟩ => ⟨S1024x512, .f32⟩
  | .hbm, ⟨79, _⟩ => ⟨S1x256x512, .f32⟩
  | .hbm, ⟨80, _⟩ => ⟨S256x512, .f32⟩
  | .hbm, ⟨81, _⟩ => ⟨S1024x512, .f32⟩
  | .hbm, ⟨82, _⟩ => ⟨S1024x1, .i1⟩
  | .hbm, ⟨83, _⟩ => ⟨S1024x512, .i1⟩
  | .hbm, ⟨84, _⟩ => ⟨S1024x512, .f32⟩
  | .hbm, ⟨85, _⟩ => ⟨S1x256x512, .f32⟩
  | .hbm, ⟨86, _⟩ => ⟨S256x512, .f32⟩
  | .hbm, ⟨87, _⟩ => ⟨S1024x512, .f32⟩
  | .hbm, ⟨88, _⟩ => ⟨S1024x1, .i1⟩
  | .hbm, ⟨89, _⟩ => ⟨S1024x512, .i1⟩
  | .hbm, ⟨90, _⟩ => ⟨S1024x512, .f32⟩
  | .hbm, ⟨91, _⟩ => ⟨S1x256x512, .f32⟩
  | .hbm, ⟨92, _⟩ => ⟨S256x512, .f32⟩
  | .hbm, ⟨93, _⟩ => ⟨S1024x512, .f32⟩
  | .hbm, ⟨94, _⟩ => ⟨S1024x1, .i1⟩
  | .hbm, ⟨95, _⟩ => ⟨S1024x512, .i1⟩
  | .hbm, ⟨96, _⟩ => ⟨S1024x512, .f32⟩
  | .hbm, ⟨97, _⟩ => ⟨S1x256x512, .f32⟩
  | .hbm, ⟨98, _⟩ => ⟨S256x512, .f32⟩
  | .hbm, ⟨99, _⟩ => ⟨S1024x512, .f32⟩
  | .hbm, ⟨100, _⟩ => ⟨S1024x1, .i1⟩
  | .hbm, ⟨101, _⟩ => ⟨S1024x512, .i1⟩
  | .hbm, ⟨102, _⟩ => ⟨S1024x512, .f32⟩
  | .hbm, ⟨103, _⟩ => ⟨S1x256x512, .f32⟩
  | .hbm, ⟨104, _⟩ => ⟨S256x512, .f32⟩
  | .hbm, ⟨105, _⟩ => ⟨S1024x512, .f32⟩
  | .hbm, ⟨106, _⟩ => ⟨S1024x1, .i1⟩
  | .hbm, ⟨107, _⟩ => ⟨S1024x512, .i1⟩
  | .hbm, ⟨108, _⟩ => ⟨S1024x512, .f32⟩
  | .hbm, ⟨109, _⟩ => ⟨S1x256x512, .f32⟩
  | .hbm, ⟨110, _⟩ => ⟨S256x512, .f32⟩
  | .hbm, ⟨111, _⟩ => ⟨S1024x512, .f32⟩
  | .hbm, ⟨112, _⟩ => ⟨S1024x1, .i1⟩
  | .hbm, ⟨113, _⟩ => ⟨S1024x512, .i1⟩
  | .hbm, ⟨114, _⟩ => ⟨S1024x512, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_call0_c : Ref sig .tc := ⟨.hbm, 10, rfl⟩
abbrev main_call0_call0_v0 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call1_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call2_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call3_v0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_call4_v0 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call5_v0 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_call6_v0 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_call7_v0 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_call8_v0 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_call9_v0 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_call10_v0 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_call11_v0 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_call12_v0 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_call13_v0 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_call14_v0 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_call15_v0 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_call16_v0 : Ref sig .tc := ⟨.hbm, 113, rfl⟩
abbrev main_v90 : Ref sig .tc := ⟨.hbm, 114, rfl⟩

abbrev nD : Nat := 1
abbrev τ : Topo := Topo.v7x

variable {F : FTy → Type} [FloatOps F]
-- ==== Proof.Proto.lean ====
/-
# The exchange between the four devices: cells, contents and schedule

Every device computes 208 rows `y` (its four experts' products, 52 slots each) and sends them to the three
others.  Transfer `j` (0, 1, 2) of device `c` goes to `tgt j c` — the device one up, one down, two up — and lands
in slot `j` of that device's buffer; so slot `j` of `c` is filled by `src j c`, the device one down, one up, two up.

Signal `j` of `c` goes to the barrier cell of `src j c` and says that slot `j` of `c` may be written: it hands
over the slot and the fact that `c` has reached round 0 of its receive cell `j`.  After waiting for three units
a device holds the three slots that it is going to write.  The receive cell `j` of `c` gets back slot `j`,
holding the `y` of `src j c`; the send cell `j` gives back the share of `y` that transfer `j` read.  The remaining
share of `y` stays with the device, which loads `y` while the three transfers are under way.

The schedule is one round.  Levels: barrier cells at 1, receive cells at 2, the rest at 0; at its barrier wait a
device owes receive credits only, and at every other wait of its body it owes nothing.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Ghost state: the pipeline's own, and the exchange's with duties named by `Fin 3` -/

abbrev XB : Type := URounds (GSem nD τ sig) (Fin 3)
abbrev XU : Type := UR sig nD τ × XB

local notation "𝕄" => MT nD τ sig Unit (Elt F) ℕ XU ℕ

abbrev EP : Emb (UR sig nD τ) (MT nD τ sig Unit (Elt F) ℕ XU ℕ) := embL
abbrev EX : Emb XB (MT nD τ sig Unit (Elt F) ℕ XU ℕ) := embR

variable (m : (ℓ : Loc nD τ sig) → Buf (Elt F) ℓ) (ρ : Dev nD → PrngReg)

/-- The state at launch: any memory, every counter zero. -/
def s₀ : MemSt nD τ sig (Elt F) := ⟨m, fun _ => 0, ρ⟩

/-! ## Who talks to whom -/

set_option backward.proofsInPublic true in
/-- The device `k` places further round. -/
def rot (k : ℕ) (c : Dev nD) : Dev nD := ⟨(c.val + k) % 4, Nat.mod_lt _ (by decide)⟩

/-- The target of transfer `j`. -/
def tgt (j : Fin 3) (c : Dev nD) : Dev nD := match j with | 0 => rot 1 c | 1 => rot 3 c | 2 => rot 2 c
/-- The device that fills slot `j`. -/
def src (j : Fin 3) (c : Dev nD) : Dev nD := match j with | 0 => rot 3 c | 1 => rot 1 c | 2 => rot 2 c

theorem src_tgt : ∀ (j : Fin 3) (c : Dev nD), src j (tgt j c) = c := by decide
theorem tgt_src : ∀ (j : Fin 3) (c : Dev nD), tgt j (src j c) = c := by decide

/-- Sending along transfer `j` permutes the devices. -/
def ringEquiv (j : Fin 3) : Dev nD ≃ Dev nD := ⟨tgt j, src j, src_tgt j, tgt_src j⟩

theorem dev1_eq (c : Dev nD) : (⟨k0_dev1 c, k0_dev1_lt c⟩ : Dev nD) = src 0 c := Fin.ext (k0_dev1_eq c)
theorem dev2_eq (c : Dev nD) : (⟨k0_dev2 c, k0_dev2_lt c⟩ : Dev nD) = src 1 c := Fin.ext (k0_dev2_eq c)
theorem dev3_eq (c : Dev nD) : (⟨k0_dev3 c, k0_dev3_lt c⟩ : Dev nD) = src 2 c := Fin.ext (k0_dev3_eq c)
theorem dev4_eq (c : Dev nD) : (⟨k0_dev4 c, k0_dev4_lt c⟩ : Dev nD) = tgt 0 c := Fin.ext (k0_dev4_eq c)
theorem dev5_eq (c : Dev nD) : (⟨k0_dev5 c, k0_dev5_lt c⟩ : Dev nD) = tgt 1 c := Fin.ext (k0_dev5_eq c)
theorem dev6_eq (c : Dev nD) : (⟨k0_dev6 c, k0_dev6_lt c⟩ : Dev nD) = tgt 2 c := Fin.ext (k0_dev6_eq c)

/-! ## Buffers -/

abbrev xM : Memref sig .tc .vmem S1024x256 .f32 := Memref.whole cc0_stg0_0
abbrev iM : Memref sig .tc .vmem S1024x1 .i32 := Memref.whole cc0_stg1_0
abbrev wM : Memref sig .tc .vmem S4x256x512 .f32 := Memref.whole cc0_stg2_0
abbrev oM : Memref sig .tc .vmem S1024x512 .f32 := Memref.whole cc0_stg3_0
abbrev yM : Memref sig .tc .vmem S208x512 .bf16 := Memref.whole cc0_scratch0
abbrev bM : Memref sig .tc .vmem S3x208x512 .bf16 := Memref.whole cc0_scratch1

theorem inb_slot : ∀ (j : Fin 3) (a : Fin 3), (![j.val, 0, 0] : Fin 3 → ℕ) a + S1x208x512.size a ≤ S3x208x512.size a := by decide

/-- Slot `j` of the landing buffer as a rectangle of it. -/
abbrev slotR (j : Fin 3) : Rect S3x208x512 := Rect.unit (s := S3x208x512) ![j.val, 0, 0] S1x208x512.size (inb_slot j)
/-- Slot `j`: 208 rows of 512. -/
def slotM (j : Fin 3) : Memref sig .tc .vmem S208x512 .bf16 :=
  (bM.slice (slotR j) (fun _ => rfl)).squeeze S208x512 squeezes_S1x208x512_S208x512

/-! ## Semaphores and cells -/

abbrev barS : Sem sig := (SemArray.scalar (sig.barrier 0 rfl) : Sems sig S_).sem

theorem inb_sem : ∀ (j : Fin 3) (a : Fin 1), (![j.val] : Fin 1 → ℕ) a + S1.size a ≤ S3.size a := by decide

/-- The send semaphore of transfer `j`, and the receive semaphore of slot `j`. -/
def sndS (j : Fin 3) : DmaSem sig :=
  ((cc0_scratch2.slice (Rect.unit (s := S3) ![j.val] S1.size (inb_sem j))).squeeze S_ squeezes_S1_S_).sem
def rcvS (j : Fin 3) : DmaSem sig :=
  ((cc0_scratch3.slice (Rect.unit (s := S3) ![j.val] S1.size (inb_sem j))).squeeze S_ squeezes_S1_S_).sem

/-- The seven cells of a device: its barrier (`none`), its sends (`some (false, j)`), its receives (`some (true, j)`). -/
abbrev Kind : Type := Option (Bool × Fin 3)

def semK (k : Kind) : SemLoc sig := match k with
  | none => .reg barS
  | some (false, j) => .dma (sndS j)
  | some (true, j) => .dma (rcvS j)

/-- Which of the seven a semaphore is, if any. -/
def kindOf (sm : SemLoc sig) : Option Kind := match sm with
  | .reg _ => some none
  | .dma q => if q.val < 4 then none else if q.val < 7 then some (some (false, ⟨(q.val - 4) % 3, Nat.mod_lt _ (by decide)⟩))
      else some (some (true, ⟨(q.val - 7) % 3, Nat.mod_lt _ (by decide)⟩))

theorem kindOf_semK : ∀ k : Kind, kindOf (semK k) = some k := by decide +kernel
theorem semK_inj : Function.Injective semK := fun a b h => Option.some.inj (by rw [← kindOf_semK a, ← kindOf_semK b, h])

/-- Cell `k` of device `c`. -/
abbrev cell (c : Dev nD) (k : Kind) : GSem nD τ sig := ((c : Thread nD τ), semK k)
abbrev barC (c : Dev nD) : GSem nD τ sig := cell c none
abbrev sndC (j : Fin 3) (c : Dev nD) : GSem nD τ sig := cell c (some (false, j))
abbrev rcvC (j : Fin 3) (c : Dev nD) : GSem nD τ sig := cell c (some (true, j))

theorem cell_inj {c c' : Dev nD} {k k' : Kind} (h : cell c k = cell c' k') : c = c' ∧ k = k' :=
  ⟨congrArg (fun g : GSem nD τ sig => g.1.1) h, semK_inj (congrArg Prod.snd h)⟩

/-- The credit of one transfer. -/
abbrev N : ℕ := (slotM 0).view.dmaCredit
theorem N_pos : 0 < N := View.dmaCredit_pos _ (by decide)
theorem amount_slot (j : Fin 3) (q : DmaSem sig) : (slotM j).view.amount (.dma q) = N := rfl

/-! ## Contents -/

/-- The three staged inputs of device `c`. -/
def xAt (c : Dev nD) : (cc0_stg0_0 : Ref sig .tc).ty.Contents (Elt F) :=
  (win0_0.blk (0 : Fin 1)).view.read (Elt F) ((s₀ m ρ).mem ((c : Thread nD τ).loc main_arg0))
def iAt (c : Dev nD) : (cc0_stg1_0 : Ref sig .tc).ty.Contents (Elt F) :=
  (win0_1.blk (0 : Fin 1)).view.read (Elt F) ((s₀ m ρ).mem ((c : Thread nD τ).loc main_arg2))
def wAt (c : Dev nD) : (cc0_stg2_0 : Ref sig .tc).ty.Contents (Elt F) :=
  (win0_2.blk (0 : Fin 1)).view.read (Elt F) ((s₀ m ρ).mem ((c : Thread nD τ).loc main_arg3))

/-- The device's place and its three neighbours' as the kernel computes them, in words. -/
def wd (c : Dev nD) : BitVec 32 := Scalar.remsi (Scalar.divsi (Dev.word c) 1#32) 4#32
def wdSrc (j : Fin 3) (c : Dev nD) : BitVec 32 := match j with
  | 0 => Scalar.remsi (Scalar.subi (Scalar.addi (wd c) 4#32) 1#32) 4#32
  | 1 => Scalar.remsi (Scalar.addi (wd c) 1#32) 4#32
  | 2 => Scalar.remsi (Scalar.addi (wd c) 2#32) 4#32

/-- Which rows a device's slots take: the 1024 × 208 matrix of zeros and ones for the device at place `w`, of the tokens' experts `idx`. -/
def pick (w : BitVec 32) (idx : Vec F S1024x1 .i32) : FVec F S1024x208 .bf16 :=
  k0_pay7 w (k0_pay1 idx) (k0_pay3 (k0_pay2 idx)) k0_pay4 k0_pay5

theorem inb_expert : ∀ (j : Fin 4) (a : Fin 3), (![j.val, 0, 0] : Fin 3 → ℕ) a + S1x256x512.size a ≤ S4x256x512.size a := by decide

/-- Expert `j`'s matrix out of a device's four. -/
def wSlice (j : Fin 4) (w : (cc0_stg2_0 : Ref sig .tc).ty.Contents (Elt F)) : Vec F S1x256x512 .f32 :=
  (wM : Memref sig .tc .vmem S4x256x512 .f32).view.readAt (Elt F) (Rect.unit (s := S4x256x512) ![j.val, 0, 0] S1x256x512.size (inb_expert j)).toLoadRect w

/-- The 208 rows that the device at place `w` computes from its inputs. -/
def rowsOf (w : BitVec 32) (idx : Vec F S1024x1 .i32) (x : Vec F S1024x256 .f32) (ws : Vec F S4x256x512 .f32) : FVec F S208x512 .bf16 :=
  k0_pay13
    (k0_pay9 w (k0_pay1 idx) (k0_pay3 (k0_pay2 idx)) k0_pay4 k0_pay5 x (wSlice 0 ws))
    (k0_pay10 w (k0_pay1 idx) (k0_pay3 (k0_pay2 idx)) k0_pay4 k0_pay5 x (wSlice 1 ws))
    (k0_pay11 w (k0_pay1 idx) (k0_pay3 (k0_pay2 idx)) k0_pay4 k0_pay5 x (wSlice 2 ws))
    (k0_pay12 w (k0_pay1 idx) (k0_pay3 (k0_pay2 idx)) k0_pay4 k0_pay5 x) (wSlice 3 ws)

/-- The rows of device `c`. -/
def yAt (c : Dev nD) : (cc0_scratch0 : Ref sig .tc).ty.Contents (Elt F) := rowsOf (wd c) (iAt m ρ c) (xAt m ρ c) (wAt m ρ c)

/-- `out + g · y`: one device's contribution added. -/
def addRows (g : FVec F S1024x208 .bf16) (out : FVec F S1024x512 .f32) (y : FVec F S208x512 .bf16) : FVec F S1024x512 .f32 :=
  addf out (matmul dot_S1024x208_S208x512_S1024x512_1_0_0_1_n_n none g y (constant S1024x512 .f32 0x00000000#32))

/-- The output of device `c` after its own contribution and those of slots 0, …, `n` - 1. -/
def outAt (c : Dev nD) : ℕ → (cc0_stg3_0 : Ref sig .tc).ty.Contents (Elt F)
  | 0 => k0_pay14 (pick (wd c) (iAt m ρ c)) (yAt m ρ c)
  | n + 1 => addRows (pick (wdSrc (Fin.ofNat 3 n) c) (iAt m ρ c)) (outAt c n) (yAt m ρ (src (Fin.ofNat 3 n) c))

/-! ## Ownership -/

/-- Slot `j` of device `c`, holding `f` there. -/
def slotPts (j : Fin 3) (c : Dev nD) (f : Buf (Elt F) ((slotM j).view.loc (c : Thread nD τ))) : sProp 𝕄 :=
  (slotM j).view.loc (c : Thread nD τ) ↦[(slotM j).view.set]{fullShare} f
/-- A share of device `c`'s rows. -/
def yPts (q : PosShare TreeShare) (c : Dev nD) : sProp 𝕄 :=
  (yM : Memref sig .tc .vmem S208x512 .bf16).view.loc (c : Thread nD τ) ↦[(yM : Memref sig .tc .vmem S208x512 .bf16).view.set]{q} yAt m ρ c

omit [FloatOps F] in
instance slotPts_storable (j : Fin 3) (c : Dev nD) (f) : BI.Storable (upEmb : UEmb _ 𝕄) (slotPts (F := F) j c f) := by
  unfold slotPts; infer_instance
instance yPts_storable (q : PosShare TreeShare) (c : Dev nD) : BI.Storable (upEmb : UEmb _ 𝕄) (yPts (F := F) m ρ q c) := by
  unfold yPts; infer_instance

/-- The shares of the rows that the three transfers read, and the one that stays. -/
def qOf (j : Fin 3) : PosShare TreeShare := match j with
  | 0 => fullShare.left | 1 => fullShare.right.left | 2 => fullShare.right.right.left
abbrev qKeep : PosShare TreeShare := fullShare.right.right.right

/-! ## The schedule -/

/-- Duty `j` of device `d`'s barrier cell, paid by `tgt j d`: that device's slot `j`, at round 0 of its receive cell. -/
def barPay (j : Fin 3) (d : Dev nD) : sProp 𝕄 := iprop((∃ f, slotPts j (tgt j d) f) ∗ reached EX (rcvC j (tgt j d)) 0)
/-- What a landing in slot `j` of `c` leaves: the slot, holding the rows of `src j c`. -/
def rcvPay (j : Fin 3) (c : Dev nD) : sProp 𝕄 := iprop(∃ f, ⌜(slotM j).view.read (Elt F) f = yAt m ρ (src j c)⌝ ∗ slotPts j c f)

def sched : Rounds.Schedule (GSem nD τ sig) (Fin 3) 𝕄 where
  duties g r := if r = 0 ∧ g.1.2 = .tc then (match kindOf g.2 with | none => ∅ | some none => Finset.univ | some (some _) => {0}) else ∅
  unitless _ := False
  amount g _ _ := match kindOf g.2 with | some none => 1 | _ => N
  payload g _ d := match kindOf g.2 with
    | none => iprop(emp)
    | some none => barPay d g.1.1
    | some (some (false, j)) => yPts m ρ (qOf j) g.1.1
    | some (some (true, j)) => rcvPay m ρ j g.1.1
  amount_pos g _ _ _ := by
    split
    · exact Nat.one_pos
    · exact N_pos

instance sched_storable (g : GSem nD τ sig) (r : ℕ) (d : Fin 3) : BI.Storable (upEmb : UEmb _ 𝕄) ((sched (F := F) m ρ).payload g r d) := by
  dsimp only [sched]
  unfold barPay rcvPay
  split <;> infer_instance

section Tables
variable (c : Dev nD) (j : Fin 3)

theorem duties_at (k : Kind) : (sched (F := F) m ρ).duties (cell c k) 0 = match k with | none => Finset.univ | some _ => {0} := by
  dsimp only [sched]; rw [if_pos ⟨rfl, rfl⟩, kindOf_semK]; cases k <;> rfl
theorem duties_bar : (sched (F := F) m ρ).duties (barC c) 0 = Finset.univ := duties_at m ρ c none
theorem duties_xfer (b : Bool) : (sched (F := F) m ρ).duties (cell c (some (b, j))) 0 = {0} := duties_at m ρ c (some (b, j))
theorem duties_later (g : GSem nD τ sig) : ∀ r, 1 ≤ r → (sched (F := F) m ρ).duties g r = ∅ :=
  fun r hr => by dsimp only [sched]; exact if_neg fun h => by omega

theorem amount_at (k : Kind) (d : Fin 3) : (sched (F := F) m ρ).amount (cell c k) 0 d = match k with | none => 1 | some _ => N := by
  dsimp only [sched]; rw [kindOf_semK]; cases k <;> rfl
theorem amount_bar (d : Fin 3) : (sched (F := F) m ρ).amount (barC c) 0 d = 1 := amount_at m ρ c none d
theorem amount_xfer (b : Bool) (d : Fin 3) : (sched (F := F) m ρ).amount (cell c (some (b, j))) 0 d = N := amount_at m ρ c (some (b, j)) d

theorem expect_bar : (sched (F := F) m ρ).expect (barC c) 0 = 3 := by
  unfold Schedule.expect Schedule.amountOf
  rw [duties_bar, Finset.sum_congr rfl fun d _ => amount_bar m ρ c d, Finset.sum_const, Finset.card_univ, Fintype.card_fin, smul_eq_mul]
theorem expect_xfer (b : Bool) : (sched (F := F) m ρ).expect (cell c (some (b, j))) 0 = N := by
  unfold Schedule.expect Schedule.amountOf; rw [duties_xfer, Finset.sum_singleton, amount_xfer]

theorem payload_bar : (sched (F := F) m ρ).payload (barC c) 0 j = barPay j c := by dsimp only [sched]; rw [kindOf_semK]
theorem payload_snd (d : Fin 3) : (sched (F := F) m ρ).payload (sndC j c) 0 d = yPts m ρ (qOf j) c := by dsimp only [sched]; rw [kindOf_semK]
theorem payload_rcv (d : Fin 3) : (sched (F := F) m ρ).payload (rcvC j c) 0 d = rcvPay m ρ j c := by dsimp only [sched]; rw [kindOf_semK]

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ

/-- The whole round of a barrier cell: the three slots that the device writes. -/
theorem rest_bar : bigSep ((sched (F := F) m ρ).duties (barC c) 0 \ ∅) (fun d => (sched (F := F) m ρ).payload (barC c) 0 d)
    = iprop(barPay 0 c ∗ barPay 1 c ∗ barPay 2 c) := by
  rw [Finset.sdiff_empty, duties_bar, bigSep_three]; simp only [payload_bar]
theorem rest_snd : bigSep ((sched (F := F) m ρ).duties (sndC j c) 0 \ ∅) (fun d => (sched (F := F) m ρ).payload (sndC j c) 0 d) = yPts m ρ (qOf j) c := by
  rw [Finset.sdiff_empty, duties_xfer, bigSep_singleton, payload_snd]
theorem rest_rcv : bigSep ((sched (F := F) m ρ).duties (rcvC j c) 0 \ ∅) (fun d => (sched (F := F) m ρ).payload (rcvC j c) 0 d) = rcvPay m ρ j c := by
  rw [Finset.sdiff_empty, duties_xfer, bigSep_singleton, payload_rcv]

end Tables

/-! ## Debts and levels -/

/-- The credit that transfer `j` of `c` owes, and the unit that signal `j` owes. -/
abbrev owR (c : Dev nD) (j : Fin 3) : CellTallies nD τ sig Unit := tallyAt (rcvC j (tgt j c)) () N
abbrev owB (c : Dev nD) (j : Fin 3) : CellTallies nD τ sig Unit := tallyAt (barC (src j c)) () 1

/-- What is owed at the barrier wait, and at launch: the payments in the order opposite to that of the program. -/
def owMid (c : Dev nD) : CellTallies nD τ sig Unit := owR c 2 + owR c 1 + owR c 0
def owAll (c : Dev nD) : CellTallies nD τ sig Unit := owMid c + owB c 2 + owB c 1 + owB c 0

def L (g : GSem nD τ sig) : Finset Unit := if g.1.2 = .tc then {()} else ∅
def lv (g : GSem nD τ sig) (_ : Unit) : ℕ := match kindOf g.2 with
  | some none => 1 | some (some (true, _)) => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem mem_L (c : Dev nD) (sm : SemLoc sig) (u : Unit) : u ∈ L ((c : Thread nD τ), sm) := by rw [L_tc]; exact Finset.mem_singleton_self _
theorem lv_bar (c : Dev nD) : lv (barC c) () = 1 := by unfold lv; rw [kindOf_semK]
theorem lv_rcv (j : Fin 3) (c : Dev nD) : lv (rcvC j c) () = 2 := by unfold lv; rw [kindOf_semK]

theorem tally_pos {g h : GSem nD τ sig} {n : ℕ} {u : Unit} (hp : 0 < (tallyAt g () n : CellTallies nD τ sig Unit) h u) : h = g := by
  rw [tallyAt_apply] at hp
  by_contra hn
  rw [if_neg (fun h' => hn h'.1)] at hp
  exact absurd hp (Nat.lt_irrefl 0)

theorem add_pos_cases {A B : CellTallies nD τ sig Unit} {g : GSem nD τ sig} {u : Unit} (h : 0 < (A + B) g u) : 0 < A g u ∨ 0 < B g u := by
  rw [Pi.add_apply, Finsupp.add_apply] at h; omega

theorem owMid_pos {c : Dev nD} {g : GSem nD τ sig} {u : Unit} (h : 0 < owMid c g u) : ∃ j, g = rcvC j (tgt j c) := by
  unfold owMid at h
  rcases add_pos_cases h with h | h
  · rcases add_pos_cases h with h | h
    · exact ⟨2, tally_pos h⟩
    · exact ⟨1, tally_pos h⟩
  · exact ⟨0, tally_pos h⟩

theorem owAll_pos {c : Dev nD} {g : GSem nD τ sig} {u : Unit} (h : 0 < owAll c g u) : (∃ j, g = rcvC j (tgt j c)) ∨ ∃ j, g = barC (src j c) := by
  unfold owAll at h
  rcases add_pos_cases h with h | h
  · rcases add_pos_cases h with h | h
    · rcases add_pos_cases h with h | h
      · exact .inl (owMid_pos h)
      · exact .inr ⟨2, tally_pos h⟩
    · exact .inr ⟨1, tally_pos h⟩
  · exact .inr ⟨0, tally_pos h⟩

/-- A staging wait is below everything owed. -/
theorem mayWait_stage (c : Dev nD) (q : DmaSem sig) (hq : kindOf (.dma q) = none) (O : CellTallies nD τ sig Unit) (hO : O = owAll c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owAll_pos hg with ⟨j, rfl⟩ | ⟨j, rfl⟩ <;> exact mem_L _ _ u)
      (fun p hp => by rw [Finset.mem_singleton.mp hp]; unfold lv; rw [hq])
      (fun g u hg => by
        rcases owAll_pos hg with ⟨j, rfl⟩ | ⟨j, rfl⟩
        · rw [show lv _ u = 2 from lv_rcv j _]; decide
        · rw [show lv _ u = 1 from lv_bar _]; decide)
  · rw [MayWait_zero]; iintro -; iempintro

/-- The barrier wait is below the three receive credits owed there. -/
theorem mayWait_bar (c : Dev nD) : (levAts L lv : sProp 𝕄) ⊢ MayWait (c : Thread nD τ) (semK none) () (owMid c) :=
  MayOwe.of_cut (L := L) (lev := lv) 1 (fun p hp => by rw [Finset.mem_singleton.mp hp, L_tc]; exact Finset.mem_singleton_self _)
    (fun g u hg => by obtain ⟨j, rfl⟩ := owMid_pos hg; exact mem_L _ _ u)
    (fun p hp => by rw [Finset.mem_singleton.mp hp]; exact le_of_eq (lv_bar c))
    (fun g u hg => by obtain ⟨j, rfl⟩ := owMid_pos hg; rw [show lv _ u = 2 from lv_rcv j _]; decide)

end Cert.MoeProof

end
-- ==== Proof.Steps.lean ====
/-
# The rules of the exchange's steps, once for every transfer

A signal, a transfer, a wait on a send or receive cell: each stated for transfer `j`, from the records that every
device holds (its cells' invariants, and that every cell has reached round 0).  Besides, what the loads of the
body read and the stores leave.
-/
module

public import proofs.«01_k».proof.Proof.Proto

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ XU ℕ

variable (m : (ℓ : Loc nD τ sig) → Buf (Elt F) ℓ) (ρ : Dev nD → PrngReg)

abbrev 𝒱₀ : Variants := Variants.none

/-! ## What every device knows -/

/-- Every cell's invariant, under the names `K`, and that every cell has reached round 0. -/
def records (K : Dev nD × Kind → ℕ) : sProp 𝕄 :=
  iprop((bigSep Finset.univ fun x : Dev nD × Kind => cellInv EX (sched m ρ) (K x) (cell x.1 x.2))
    ∗ bigSep Finset.univ fun x : Dev nD × Kind => reached EX (cell x.1 x.2) 0)

instance records_persistent (K : Dev nD × Kind → ℕ) : BI.Persistent (records m ρ K) := by unfold records; infer_instance

theorem inv_of (K : Dev nD × Kind → ℕ) (c : Dev nD) (k : Kind) : records m ρ K ⊢ cellInv EX (sched m ρ) (K (c, k)) (cell c k) := by
  unfold records
  iintro ⟨#H, -⟩
  have h : (bigSep Finset.univ fun x : Dev nD × Kind => (cellInv EX (sched m ρ) (K x) (cell x.1 x.2) : sProp 𝕄)) ⊢ cellInv EX (sched m ρ) (K (c, k)) (cell c k) := bigSep_elim (Finset.mem_univ (c, k))
  iapply h; iexact H
theorem reached_of (K : Dev nD × Kind → ℕ) (c : Dev nD) (k : Kind) : records m ρ K ⊢ reached EX (cell c k) 0 := by
  unfold records
  iintro ⟨-, #H⟩
  have h : (bigSep Finset.univ fun x : Dev nD × Kind => (reached EX (cell x.1 x.2) 0 : sProp 𝕄)) ⊢ reached EX (cell c k) 0 := bigSep_elim (Finset.mem_univ (c, k))
  iapply h; iexact H

variable (K : Dev nD × Kind → ℕ)

/-! ## The steps -/

/-- Signal `j`: slot `j` handed to the device that fills it. -/
theorem step_signal {α : Type} {Q : α → sProp 𝕄} {k : PUnit → Prog (TpuEff nD τ sig (Elt F) Λ₀ .tc) α}
    (j : Fin 3) (c n : Dev nD) (hn : n = src j c) (O : CellTallies nD τ sig Unit) (W : Waits sig Unit) :
    iprop(records m ρ K ∗ owes (c : Thread nD τ) (O + owB c j) W ∗ dutyTok EX (barC (src j c)) 0 j ∗ ∃ f, slotPts j c f)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((n, .tc) : Thread nD τ) barS ((1#32 : BitVec 32).toInt)) k) Q) := by
  subst hn
  iintro ⟨#HR, HO, Ht, Hs⟩ Hk
  iapply (Rounds.wp_signal 𝒱₀ EX (sched m ρ) (c : Thread nD τ) none (dst := (src j c : Thread nD τ)) (κ := K (src j c, none))
      (d := j) (show j ∈ (sched m ρ).duties (barC (src j c)) 0 by rw [duties_bar]; exact Finset.mem_univ _) ((amount_bar m ρ (src j c) j).trans (by decide)) () O rfl) $$ [HO Ht Hs]
  · isplitr; · iapply (inv_of m ρ K (src j c) none); iexact HR
    isplitl [HO]; · iexact HO
    isplitl [Ht]; · iexact Ht
    isplitl [Hs]
    · rw [show (sched m ρ).payload ((src j c : Thread nD τ), SemLoc.reg barS) 0 j = barPay j (src j c) from payload_bar m ρ (src j c) j]
      unfold barPay; rw [tgt_src]
      isplitl [Hs]; · iexact Hs
      iapply (reached_of m ρ K c (some (true, j))); iexact HR
    · iapply (reached_of m ρ K (src j c) none); iexact HR
  iexact Hk

/-- The barrier wait: the three slots that the device writes. -/
theorem step_barrier {α : Type} {Q : α → sProp 𝕄} {k : PUnit → Prog (TpuEff nD τ sig (Elt F) Λ₀ .tc) α}
    (c : Dev nD) (W : Waits sig Unit) :
    iprop(records m ρ K ∗ levAts L lv ∗ cred (tallyAt (barC c) () 3) ∗ owes (c : Thread nD τ) (owMid c) W ∗ atPos EX (barC c) 0 ∅ 0)
      ⊢ iprop((((∃ W', owes (c : Thread nD τ) (owMid c) W') ∗ semVal (barC c) 0 ∗ barPay 0 c ∗ barPay 1 c ∗ barPay 2 c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS ((3#32 : BitVec 32).toInt)) k) Q) := by
  iintro ⟨#HR, #Hlev, Hc, HO, Hat⟩ Hk
  iapply (Rounds.wp_wait_rest_token 𝒱₀ EX (sched m ρ) (c : Thread nD τ) none (κ := K (c, none))
      (wpE_semWait_eq 𝒱₀ (c : Thread nD τ) none Set.univ) (Set.mem_univ _) () (O := owMid c) (W := W) (R := 0) (m := 0) (T := ∅)
      (by rw [show ((c : Thread nD τ), SemLoc.reg barS) = barC c from rfl, expect_bar]; decide)) $$ [Hc HO Hat]
  · isplitr; · iapply (inv_of m ρ K c none); iexact HR
    isplitl [Hc]; · iexact Hc
    isplitl [HO]; · iexact HO
    isplitr; · iapply (mayWait_bar c); iexact Hlev
    iexact Hat
  iintro ⟨HO, Hat, -, Hpay⟩
  ihave Hp := (Entails.of_eq (show bigSep ((sched m ρ).duties ((c : Thread nD τ), SemLoc.reg barS) 0 \ ∅) (fun d => (sched m ρ).payload ((c : Thread nD τ), SemLoc.reg barS) 0 d)
      = iprop(barPay 0 c ∗ barPay 1 c ∗ barPay 2 c) from rest_bar m ρ c)) $$ Hpay
  imod (Rounds.cell_close EX (sched m ρ) (Set.mem_univ (K (c, none))) (fun h => h) (R := 0 + 1) (duties_later m ρ (barC c))) $$ [Hat] with Hz
  · isplitr; · iapply (inv_of m ρ K c none); iexact HR
    iexact Hat
  iapply Hk
  isplitl [HO]; · iexists _; iexact HO
  isplitl [Hz]; · iexact Hz
  iexact Hp

/-- Transfer `j`: a share of the rows to slot `j` of `tgt j c`. -/
theorem step_send {α : Type} {Q : α → sProp 𝕄} {k : PUnit → Prog (TpuEff nD τ sig (Elt F) Λ₀ .tc) α}
    (j : Fin 3) (c n : Dev nD) (hn : n = tgt j c) {dst : Memref sig .tc .vmem S208x512 .bf16} (hd : dst = slotM j) {sS sR : DmaSem sig} (hS : sS = sndS j) (hR : sR = rcvS j)
    {hsc : (dst : Memref sig (Dev.tc n : Thread nD τ).2.kind .vmem S208x512 .bf16).view.ref.isScScratch = false}
    {hsrc : (yM : Memref sig .tc .vmem S208x512 .bf16).view.WordExact} {hdst : dst.view.WordExact}
    {hsem : DmaTarget.Typed .vmem (.dma sR) (.remote (Dev.tc n : Thread nD τ) dst (.dma sS) hsc)}
    (O : CellTallies nD τ sig Unit) (W : Waits sig Unit) :
    iprop(records m ρ K ∗ yPts m ρ (qOf j) c ∗ barPay j c ∗ owes (c : Thread nD τ) (O + owR c j) W
        ∗ dutyTok EX (sndC j c) 0 0 ∗ dutyTok EX (rcvC j (tgt j c)) 0 0)
      ⊢ iprop(((cred (tallyAt (sndC j c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma yM (.remote (Dev.tc n : Thread nD τ) dst (.dma sS) hsc) (.dma sR) hsrc hdst hsem) k) Q) := by
  subst hn hd hS hR
  unfold barPay slotPts yPts
  iintro ⟨#HR, Hy, ⟨⟨%f, Hs⟩, #Hr⟩, HO, Ht1, Ht2⟩ Hk
  iapply (Rounds.wp_send_pointsTo 𝒱₀ EX (sched m ρ) (c : Thread nD τ) none (κ₁ := K (c, some (false, j))) (κ₂ := K (tgt j c, some (true, j)))
    (r₁ := 0) (r₂ := 0) (d₁ := 0) (d₂ := 0) (fd := f)
    (show 0 ∈ (sched m ρ).duties (sndC j c) 0 by rw [duties_xfer]; exact Finset.mem_singleton_self _)
    (show 0 ∈ (sched m ρ).duties (rcvC j (tgt j c)) 0 by rw [duties_xfer]; exact Finset.mem_singleton_self _)
    () () N (amount_slot j (rcvS j)) (amount_xfer m ρ c j false 0) (amount_xfer m ρ (tgt j c) j true 0) O rfl (W := W)
    (show _ ⊢ (sched m ρ).payload (sndC j c) 0 0 by rw [payload_snd]; exact BI.Entails.refl _)
    (show _ ⊢ (sched m ρ).payload (rcvC j (tgt j c)) 0 0 by
      rw [payload_rcv]; unfold rcvPay slotPts; rw [src_tgt]
      iintro H; iexists _
      isplitr
      rotate_left
      · iexact H
      · ipureintro; exact View.read_write_univ _ _)) $$ [Hy Hs HO Ht1 Ht2]
  · isplitr; · iapply (inv_of m ρ K c (some (false, j))); iexact HR
    isplitr; · iapply (inv_of m ρ K (tgt j c) (some (true, j))); iexact HR
    isplitl [Hy]; · iexact Hy
    isplitl [Hs]; · iexact Hs
    isplitl [HO]; · iexact HO
    isplitl [Ht1]; · iexact Ht1
    isplitr; · iapply (reached_of m ρ K c (some (false, j))); iexact HR
    isplitl [Ht2]; · iexact Ht2
    iexact Hr
  iexact Hk

/-- A wait on a send or receive cell of the device, owing nothing: the cell closes, and its round's payload is the device's. -/
theorem step_wait {α : Type} {Q : α → sProp 𝕄} {k : PUnit → Prog (TpuEff nD τ sig (Elt F) Λ₀ .tc) α}
    (b : Bool) (j : Fin 3) (c : Dev nD) {sp : Space} {s : Shape} {e : EltTy} {q : DmaSem sig} (hq : SemLoc.dma q = semK (some (b, j))) {srcM : Memref sig .tc sp s e}
    {dst : Memref sig .tc .vmem S208x512 .bf16} (hN : dst.view.dmaCredit = N) {h1 : srcM.view.WordExact} {h2 : dst.view.WordExact} (W : Waits sig Unit) :
    iprop(records m ρ K ∗ cred (tallyAt (cell c (some (b, j))) () N) ∗ owes (c : Thread nD τ) 0 W ∗ atPos EX (cell c (some (b, j))) 0 ∅ 0)
      ⊢ iprop((((∃ W', owes (c : Thread nD τ) 0 W') ∗ semVal (cell c (some (b, j))) 0
              ∗ bigSep ((sched (F := F) m ρ).duties (cell c (some (b, j))) 0 \ ∅) (fun d => (sched (F := F) m ρ).payload (cell c (some (b, j))) 0 d))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q srcM dst h1 h2) k) Q) := by
  iintro ⟨#HR, Hc, HO, Hat⟩ Hk
  iapply (Rounds.wp_wait_rest_token 𝒱₀ EX (sched m ρ) (c : Thread nD τ) none (κ := K (c, some (b, j)))
      (sm := semK (some (b, j))) (k' := N) (fun Kt => by rw [wpE_waitDma2_eq, hN, hq]) (Set.mem_univ _) () (O := 0) (W := W) (R := 0) (m := 0) (T := ∅)
      (by rw [Nat.zero_add, expect_xfer])) $$ [Hc HO Hat]
  · isplitr; · iapply (inv_of m ρ K c (some (b, j))); iexact HR
    isplitl [Hc]; · iexact Hc
    isplitl [HO]; · iexact HO
    isplitr; · rw [MayWait_zero]; iempintro
    iexact Hat
  iintro ⟨HO, Hat, -, Hpay⟩
  imod (Rounds.cell_close EX (sched m ρ) (Set.mem_univ (K (c, some (b, j)))) (fun h => h) (R := 0 + 1) (duties_later m ρ _)) $$ [Hat] with Hz
  · isplitr; · iapply (inv_of m ρ K c (some (b, j))); iexact HR
    iexact Hat
  iapply Hk
  isplitl [HO]; · iexists _; iexact HO
  isplitl [Hz]; · iexact Hz
  iexact Hpay

omit [FloatOps F] in
/-- The elements under slot `j`. -/
theorem slot_set (j : Fin 3) : (slotM j).view.set = (slotR j).set := by
  exact (View.set_reshape _ _).trans (View.set_slice_whole _ _)

/-- The load of slot `j`. -/
theorem step_load {α : Type} {Q : α → sProp 𝕄} (j : Fin 3) (c : Dev nD) (f : Buf (Elt F) ((slotM j).view.loc (c : Thread nD τ)))
    {hl : (bM : Memref sig .tc .vmem S3x208x512 .bf16).view.LoadsAt (slotR j).toLoadRect} {k : Vec F S1x208x512 .bf16 → Prog (TpuEff nD τ sig (Elt F) Λ₀ .tc) α} :
    slotPts j c f
      ⊢ iprop((slotPts j c f -∗ wp frame (wpE (defs₀ (F := F)) 𝒱₀ (c : Thread nD τ) none) Set.univ (k ((bM : Memref sig .tc .vmem S3x208x512 .bf16).view.readAt (Elt F) (slotR j).toLoadRect f)) Q)
          -∗ wp frame (wpE (defs₀ (F := F)) 𝒱₀ (c : Thread nD τ) none) Set.univ (.op (.load bM (slotR j).toLoadRect hl) k) Q) := by
  unfold slotPts
  exact wp_load 𝒱₀ (c : Thread nD τ) none Set.univ (m := bM) (r := (slotR j).toLoadRect) (S := (slotM j).view.set)
    (by rw [slot_set]; exact Finset.map_refl.subset)

/-! ## What the loads read and the stores leave -/

theorem off2 : (![0, 0] : Fin 2 → ℕ) = fun _ => 0 := funext fun a => by fin_cases a <;> rfl

abbrev rX : Rect S1024x256 := Rect.unit (s := S1024x256) ![0, 0] S1024x256.size inb_S1024x256_S1024x256_0_0
abbrev rI : Rect S1024x1 := Rect.unit (s := S1024x1) ![0, 0] S1024x1.size inb_S1024x1_S1024x1_0_0
abbrev rY : Rect S208x512 := Rect.unit (s := S208x512) ![0, 0] S208x512.size inb_S208x512_S208x512_0_0
abbrev rO : Rect S1024x512 := Rect.unit (s := S1024x512) ![0, 0] S1024x512.size inb_S1024x512_S1024x512_0_0

theorem read_x (f : (cc0_stg0_0 : Ref sig .tc).ty.Contents (Elt F)) : (xM : Memref sig .tc .vmem S1024x256 .f32).view.readAt (Elt F) rX.toLoadRect f = f :=
  Memref.readAt_unit_zero (Elt F) cc0_stg0_0 off2 _ f
theorem read_i (f : (cc0_stg1_0 : Ref sig .tc).ty.Contents (Elt F)) : (iM : Memref sig .tc .vmem S1024x1 .i32).view.readAt (Elt F) rI.toLoadRect f = f :=
  Memref.readAt_unit_zero (Elt F) cc0_stg1_0 off2 _ f
theorem read_o (f : (cc0_stg3_0 : Ref sig .tc).ty.Contents (Elt F)) : (oM : Memref sig .tc .vmem S1024x512 .f32).view.readAt (Elt F) rO.toLoadRect f = f :=
  Memref.readAt_unit_zero (Elt F) cc0_stg3_0 off2 _ f
theorem read_y (f : (cc0_scratch0 : Ref sig .tc).ty.Contents (Elt F)) : (yM : Memref sig .tc .vmem S208x512 .bf16).view.readAt (Elt F) rY.toLoadRect f = f :=
  Memref.readAt_unit_zero (Elt F) cc0_scratch0 off2 _ f
theorem write_o (f w : (cc0_stg3_0 : Ref sig .tc).ty.Contents (Elt F)) :
    ((oM : Memref sig .tc .vmem S1024x512 .f32).access rO : View sig .tc _ _ _).write (Elt F) f w Finset.univ = w :=
  Memref.write_access_unit_zero_univ (Elt F) cc0_stg3_0 off2 _ f w
theorem write_y (f w : (cc0_scratch0 : Ref sig .tc).ty.Contents (Elt F)) :
    ((yM : Memref sig .tc .vmem S208x512 .bf16).access rY : View sig .tc _ _ _).write (Elt F) f w Finset.univ = w :=
  Memref.write_access_unit_zero_univ (Elt F) cc0_scratch0 off2 _ f w

/-- The load of slot `j`, its unit dimension dropped, reads what the transfer's view of the slot reads. -/
theorem read_slot (j : Fin 3) (f : (cc0_scratch1 : Ref sig .tc).ty.Contents (Elt F)) :
    shapeCast S208x512 ((bM : Memref sig .tc .vmem S3x208x512 .bf16).view.readAt (Elt F) (slotR j).toLoadRect f) shapeCasts_S1x208x512_S208x512
      = (slotM j).view.read (Elt F) f := rfl

/-- A contribution is added in the same way at the three places. -/
theorem pay18_eq (g : FVec F S1024x208 .bf16) (o : Vec F S1024x512 .f32) (v : Vec F S1x208x512 .bf16) (y : FVec F S208x512 .bf16)
    (h : shapeCast S208x512 v shapeCasts_S1x208x512_S208x512 = y) : k0_pay18 g o v = addRows g o y := by
  unfold k0_pay18 addRows; rw [← h]; simp only [shapeCast_self]
theorem pay19_eq (g : FVec F S1024x208 .bf16) (o : Vec F S1024x512 .f32) (v : Vec F S1x208x512 .bf16) (y : FVec F S208x512 .bf16)
    (h : shapeCast S208x512 v shapeCasts_S1x208x512_S208x512 = y) : k0_pay19 g o v = addRows g o y := pay18_eq g o v y h
theorem pay20_eq (g : FVec F S1024x208 .bf16) (o : Vec F S1024x512 .f32) (v : Vec F S1x208x512 .bf16) (y : FVec F S208x512 .bf16)
    (h : shapeCast S208x512 v shapeCasts_S1x208x512_S208x512 = y) : k0_pay20 g o v = addRows g o y := pay18_eq g o v y h

/-- The three neighbours' matrices are the same function of a place as the device's own. -/
theorem pay15_eq (w : BitVec 32) (i : Vec F S1024x1 .i32) :
    k0_pay15 w (k0_pay1 i) (k0_pay3 (k0_pay2 i)) k0_pay4 k0_pay5 (k0_pay6 k0_pay5) = pick w i := rfl
theorem pay16_eq (w : BitVec 32) (i : Vec F S1024x1 .i32) :
    k0_pay16 w (k0_pay1 i) (k0_pay3 (k0_pay2 i)) k0_pay4 k0_pay5 (k0_pay6 k0_pay5) = pick w i := rfl
theorem pay17_eq (w : BitVec 32) (i : Vec F S1024x1 .i32) :
    k0_pay17 w (k0_pay1 i) (k0_pay3 (k0_pay2 i)) k0_pay4 k0_pay5 (k0_pay6 k0_pay5) = pick w i := rfl

/-! ## The slots cut out of the landing buffer, and put together again -/

theorem slots_cover : (Finset.univ : Finset (S3x208x512).Idx) = Finset.univ.biUnion fun j : Fin 3 => (slotR j).set := by
  ext x
  simp only [Finset.mem_univ, true_iff, Finset.mem_biUnion, true_and]
  refine ⟨x 0, Rect.mem_set_unit.mpr fun a => ?_⟩
  fin_cases a
  · exact ⟨le_rfl, Nat.lt_succ_self _⟩
  · exact ⟨Nat.zero_le _, lt_of_lt_of_eq (x 1).isLt (Nat.zero_add _).symm⟩
  · exact ⟨Nat.zero_le _, lt_of_lt_of_eq (x 2).isLt (Nat.zero_add _).symm⟩

theorem slots_disjoint (j : Fin 3) (_ : j ∈ (Finset.univ : Finset (Fin 3))) (j' : Fin 3) (_ : j' ∈ (Finset.univ : Finset (Fin 3))) (h : j ≠ j') :
    Disjoint (slotR j).set (slotR j').set := by
  have h' : j.val ≠ j'.val := fun e => h (Fin.ext e)
  rcases Nat.lt_or_gt_of_ne h' with h' | h'
  · exact Rect.unit_disjoint 0 (.inl (Nat.succ_le_of_lt h'))
  · exact Rect.unit_disjoint 0 (.inr (Nat.succ_le_of_lt h'))

omit [FloatOps F] in
theorem slots_split (c : Dev nD) (f : Buf (Elt F) ((c : Thread nD τ).loc cc0_scratch1)) :
    (((c : Thread nD τ).loc cc0_scratch1) ↦{fullShare} f : sProp 𝕄) = iprop(slotPts 0 c f ∗ slotPts 1 c f ∗ slotPts 2 c f) := by
  rw [show ((((c : Thread nD τ).loc cc0_scratch1) ↦{fullShare} f : sProp 𝕄)) = (((c : Thread nD τ).loc cc0_scratch1) ↦[Finset.univ.biUnion fun j : Fin 3 => (slotR j).set]{fullShare} f) from
      congrArg (fun S => (((c : Thread nD τ).loc cc0_scratch1) ↦[S]{fullShare} f : sProp 𝕄)) slots_cover,
    pointsTo_biUnion _ _ slots_disjoint, bigSep_three]
  unfold slotPts; simp only [slot_set]; rfl

omit [FloatOps F] in
theorem slots_join (c : Dev nD) (f : Fin 3 → Buf (Elt F) ((c : Thread nD τ).loc cc0_scratch1)) :
    (iprop(slotPts 0 c (f 0) ∗ slotPts 1 c (f 1) ∗ slotPts 2 c (f 2)) : sProp 𝕄) ⊢ ∃ g, (((c : Thread nD τ).loc cc0_scratch1) ↦{fullShare} g) := by
  have h := pointsTo_biUnion_join (Ix := Unit) (Name := ℕ) (U := XU) (Lvl := ℕ) (q := fullShare) (ℓ := (c : Thread nD τ).loc cc0_scratch1)
    (Finset.univ : Finset (Fin 3)) (fun j => (slotR j).set) f (f 0) slots_disjoint
  rw [bigSep_three] at h
  unfold slotPts; simp only [slot_set]
  refine (show _ from h).trans ?_
  iintro ⟨%g, -, H⟩
  iexists g
  rw [← slots_cover]; iexact H

end Cert.MoeProof

end
-- ==== Proof.Body.lean ====
/-
# The body of one device, run once at a symbolic device

From its staged inputs, its two scratch buffers, its tokens and credits, a device runs to the output `outAt c 3`,
with its seven cells closed and its scratch whole again.
-/
module

public import proofs.«01_k».proof.Proof.Steps

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ XU ℕ

variable (m : (ℓ : Loc nD τ sig) → Buf (Elt F) ℓ) (ρ : Dev nD → PrngReg)

/-! ## What a device holds before and after -/

/-- The tokens of the duties that a device pays for transfer `j`: its signal, its send, its landing. -/
def pays (j : Fin 3) (c : Dev nD) : sProp 𝕄 :=
  iprop(dutyTok EX (barC (src j c)) 0 j ∗ dutyTok EX (sndC j c) 0 0 ∗ dutyTok EX (rcvC j (tgt j c)) 0 0)
/-- Its positions at its send and receive cells of transfer `j`. -/
def ats (j : Fin 3) (c : Dev nD) : sProp 𝕄 := iprop(atPos EX (sndC j c) 0 ∅ 0 ∗ atPos EX (rcvC j c) 0 ∅ 0)
/-- All of them, with its place at its barrier cell. -/
def linear (c : Dev nD) : sProp 𝕄 :=
  iprop(atPos EX (barC c) 0 ∅ 0 ∗ (bigSep Finset.univ fun j => ats j c) ∗ bigSep Finset.univ fun j => pays j c)
/-- The ghost state of a device. -/
def ghost (c : Dev nD) : sProp 𝕄 := iprop(∃ K, records m ρ K ∗ linear c)

/-- The credits for its waits that others pay. -/
def credits (c : Dev nD) : sProp 𝕄 := iprop(cred (tallyAt (barC c) () 3) ∗ bigSep Finset.univ fun j => cred (tallyAt (rcvC j c) () N))
/-- What the exchange starts from. -/
def start (c : Dev nD) : sProp 𝕄 := iprop(ghost m ρ c ∗ credits c ∗ levAts L lv)
/-- The scratch buffers, whole at some contents. -/
def scratch (c : Dev nD) : sProp 𝕄 :=
  iprop((∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)
/-- The seven counters at zero. -/
def counters (c : Dev nD) : sProp 𝕄 :=
  iprop(semVal (barC c) 0 ∗ bigSep Finset.univ fun j : Fin 3 => iprop(semVal (sndC j c) 0 ∗ semVal (rcvC j c) 0))

def ΦA (c : Dev nD) : sProp 𝕄 := iprop(start m ρ c ∗ scratch c)
def ΦB (c : Dev nD) : sProp 𝕄 := iprop(scratch c ∗ counters c)

/-- The pipeline of the one call, of one point: inputs 0, 1, 2 kept, output 3 at `outAt c 3`. -/
def dats (_ : Fin 1) (c : Dev nD) : Dat τ (Elt F) Unit ℕ XU ℕ cfg0 c where
  A w := (s₀ m ρ).mem ((cfg0.win w).arr.view.loc (c : Thread nD τ))
  after w _ := match w with
    | ⟨0, _⟩ => xAt m ρ c
    | ⟨1, _⟩ => iAt m ρ c
    | ⟨2, _⟩ => wAt m ρ c
    | ⟨3, _⟩ => outAt m ρ c 3
  Φ t := match t with
    | ⟨0, _⟩ => ΦA m ρ c
    | ⟨_ + 1, _⟩ => ΦB c
  q _ := fullShare
  owed t := match t with
    | ⟨0, _⟩ => owAll c
    | ⟨_ + 1, _⟩ => 0

/-- A staging buffer whole at `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_stg (c : Dev nD) (b : Ref sig .tc) (X : b.ty.Contents (Elt F)) :
    (owns (Ix := Unit) (Name := ℕ) (U := XU) (Lvl := ℕ) (c : Thread nD τ) (Memref.whole b) fullShare X : sProp 𝕄) = stg c b X := by
  unfold owns; simp only [Memref.view_whole, View.read_whole, View.set_whole]

/-! ## The shares of the rows -/

omit [FloatOps F] in
theorem y_set : (yM : Memref sig .tc .vmem S208x512 .bf16).view.set = Finset.univ := by simp only [Memref.view_whole, View.set_whole]

theorem rows_split (c : Dev nD) :
    (((c : Thread nD τ).loc cc0_scratch0) ↦{fullShare} yAt m ρ c : sProp 𝕄) ⊣⊢ iprop(yPts m ρ (qOf 0) c ∗ yPts m ρ (qOf 1) c ∗ yPts m ρ (qOf 2) c ∗ yPts m ρ qKeep c) := by
  unfold yPts; rw [y_set]
  have h0 := pointsTo_share (Ix := Unit) (Name := ℕ) (U := XU) (Lvl := ℕ) (ℓ := (c : Thread nD τ).loc cc0_scratch0) (I := Finset.univ) (f := yAt m ρ c) (PosShare.mem_left_op_right fullShare)
  have h1 := pointsTo_share (Ix := Unit) (Name := ℕ) (U := XU) (Lvl := ℕ) (ℓ := (c : Thread nD τ).loc cc0_scratch0) (I := Finset.univ) (f := yAt m ρ c) (PosShare.mem_left_op_right fullShare.right)
  have h2 := pointsTo_share (Ix := Unit) (Name := ℕ) (U := XU) (Lvl := ℕ) (ℓ := (c : Thread nD τ).loc cc0_scratch0) (I := Finset.univ) (f := yAt m ρ c) (PosShare.mem_left_op_right fullShare.right.right)
  exact ⟨h0.1.trans (sep_mono_right (h1.1.trans (sep_mono_right h2.1))), (sep_mono_right ((sep_mono_right h2.2).trans h1.2)).trans h0.2⟩

/-! ## The body -/

variable (K : Dev nD × Kind → ℕ)

def bodyPre (c : Dev nD) : sProp 𝕄 :=
  iprop((records m ρ K ∗ linear c ∗ credits c ∗ levAts L lv ∗ scratch c)
    ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(ΦB c ∗ (dats m ρ 0 c).owesAt () t0_0.succ
    ∗ stg c cc0_stg0_0 (xAt m ρ c) ∗ stg c cc0_stg1_0 (iAt m ρ c) ∗ stg c cc0_stg2_0 (wAt m ρ c) ∗ stg c cc0_stg3_0 (outAt m ρ c 3))

theorem fetch_in (w : Fin 4) (hw : w.val < 3) (t : Fin cfg0.N) : (cfg0.win w).fetch t = true := by
  rw [fin_N0 t]; fin_cases w <;> first | rfl | exact absurd hw (by decide)

abbrev body0 : Prog (TpuEff nD τ sig (Elt F) Λ₀ .tc) PUnit :=
  cc0_body (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_scratch0) (Memref.isWhole_whole _) (Memref.whole cc0_scratch1) (Memref.isWhole_whole _) cc0_scratch2 cc0_scratch3

set_option maxRecDepth 8000 in
set_option maxHeartbeats 4000000 in
/-- The body, one rule per effect in program order. -/
theorem sound_body (c : Dev nD) (Kt : PUnit → sProp 𝕄) :
    iprop(bodyPre m ρ K c ∗ (bodyPost m ρ c -∗ Kt ⟨⟩)) ⊢ wp frame (wpE (defs₀ (F := F)) 𝒱₀ c none) Set.univ body0 Kt := by
  unfold body0
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, wp_deviceId]
  unfold bodyPre linear credits scratch
  simp only [bigSep_three]
  unfold ats pays
  iintro ⟨⟨⟨#HR, ⟨HaB, ⟨⟨HaS0, HaR0⟩, ⟨HaS1, HaR1⟩, HaS2, HaR2⟩, ⟨HtB0, HtS0, HtR0⟩, ⟨HtB1, HtS1, HtR1⟩, HtB2, HtS2, HtR2⟩, ⟨HcB, HcR0, HcR1, HcR2⟩, #Hlev, ⟨%fy, Hy⟩, %fb, Hb⟩,
    Ho, ⟨%d0, %g0, %hg0, Hx⟩, ⟨%d1, %g1, %hg1, Hi⟩, ⟨%d2, %g2, %hg2, Hw⟩, %d3, %g3, %hg3, Hout⟩, Hk⟩
  have e0 : g0 = xAt m ρ c := by rw [hg0]; unfold Dat.before; rw [if_pos (fetch_in 0 (by decide) t0_0)]; rfl
  have e1 : g1 = iAt m ρ c := by rw [hg1]; unfold Dat.before; rw [if_pos (fetch_in 1 (by decide) t0_0)]; rfl
  have e2 : g2 = wAt m ρ c := by rw [hg2]; unfold Dat.before; rw [if_pos (fetch_in 2 (by decide) t0_0)]; rfl
  subst e0 e1 e2
  unfold Dat.owesAt Pipeline.owesWithin
  icases Ho with ⟨%W, %hW, HO⟩
  rw [show (dats m ρ 0 c).owed t0_0.castSucc = owMid c + owB c 2 + owB c 1 + owB c 0 from rfl]
  ihave Hsl := (Entails.of_eq (slots_split (F := F) c fb)) $$ Hb
  icases Hsl with ⟨Hs0, Hs1, Hs2⟩
  -- the three signals
  iapply (step_signal m ρ K 0 c _ (dev1_eq c) (owMid c + owB c 2 + owB c 1) W) $$ [HO HtB0 Hs0]
  · isplitr; · iexact HR
    isplitl [HO]; · iexact HO
    isplitl [HtB0]; · iexact HtB0
    iexists fb; iexact Hs0
  iintro HO
  iapply (step_signal m ρ K 1 c _ (dev2_eq c) (owMid c + owB c 2) W) $$ [HO HtB1 Hs1]
  · isplitr; · iexact HR
    isplitl [HO]; · iexact HO
    isplitl [HtB1]; · iexact HtB1
    iexists fb; iexact Hs1
  iintro HO
  iapply (step_signal m ρ K 2 c _ (dev3_eq c) (owMid c) W) $$ [HO HtB2 Hs2]
  · isplitr; · iexact HR
    isplitl [HO]; · iexact HO
    isplitl [HtB2]; · iexact HtB2
    iexists fb; iexact Hs2
  iintro HO
  -- the loads of the inputs
  iapply (wp_load 𝒱₀ (c : Thread nD τ) none Set.univ (m := iM) (Finset.subset_univ _)) $$ Hi; iintro Hi
  rw [read_i]
  iapply (wp_load 𝒱₀ (c : Thread nD τ) none Set.univ (m := xM) (Finset.subset_univ _)) $$ Hx; iintro Hx
  rw [read_x]
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  -- the rows stored
  iapply (wp_load 𝒱₀ (c : Thread nD τ) none Set.univ (m := yM) (Finset.subset_univ _)) $$ Hy; iintro Hy
  iapply (wp_store 𝒱₀ (c : Thread nD τ) none Set.univ (m := yM) (r := rY) (Mk := Finset.univ) (Finset.subset_univ _)) $$ Hy; iintro Hy
  rw [write_y]
  rw [show k0_pay13
      (k0_pay9 (Scalar.remsi (Scalar.divsi (Dev.word c) 1#32) 4#32) (k0_pay1 (iAt m ρ c)) (k0_pay3 (k0_pay2 (iAt m ρ c))) k0_pay4 k0_pay5 (xAt m ρ c)
        ((wM : Memref sig .tc .vmem S4x256x512 .f32).view.readAt (Elt F) (Rect.unit (s := S4x256x512) ![0, 0, 0] S1x256x512.size inb_S4x256x512_S1x256x512_0_0_0).toLoadRect (wAt m ρ c)))
      (k0_pay10 (Scalar.remsi (Scalar.divsi (Dev.word c) 1#32) 4#32) (k0_pay1 (iAt m ρ c)) (k0_pay3 (k0_pay2 (iAt m ρ c))) k0_pay4 k0_pay5 (xAt m ρ c)
        ((wM : Memref sig .tc .vmem S4x256x512 .f32).view.readAt (Elt F) (Rect.unit (s := S4x256x512) ![1, 0, 0] S1x256x512.size inb_S4x256x512_S1x256x512_1_0_0).toLoadRect (wAt m ρ c)))
      (k0_pay11 (Scalar.remsi (Scalar.divsi (Dev.word c) 1#32) 4#32) (k0_pay1 (iAt m ρ c)) (k0_pay3 (k0_pay2 (iAt m ρ c))) k0_pay4 k0_pay5 (xAt m ρ c)
        ((wM : Memref sig .tc .vmem S4x256x512 .f32).view.readAt (Elt F) (Rect.unit (s := S4x256x512) ![2, 0, 0] S1x256x512.size inb_S4x256x512_S1x256x512_2_0_0).toLoadRect (wAt m ρ c)))
      (k0_pay12 (Scalar.remsi (Scalar.divsi (Dev.word c) 1#32) 4#32) (k0_pay1 (iAt m ρ c)) (k0_pay3 (k0_pay2 (iAt m ρ c))) k0_pay4 k0_pay5 (xAt m ρ c))
      ((wM : Memref sig .tc .vmem S4x256x512 .f32).view.readAt (Elt F) (Rect.unit (s := S4x256x512) ![3, 0, 0] S1x256x512.size inb_S4x256x512_S1x256x512_3_0_0).toLoadRect (wAt m ρ c))
      = yAt m ρ c from rfl]
  ihave Hys := (show _ ⊢ iprop(yPts m ρ (qOf 0) c ∗ yPts m ρ (qOf 1) c ∗ yPts m ρ (qOf 2) c ∗ yPts m ρ qKeep c) from (rows_split m ρ c).1) $$ Hy
  icases Hys with ⟨Hy0, Hy1, Hy2, Hy⟩
  -- the barrier
  iapply (step_barrier m ρ K c W) $$ [HcB HO HaB]
  · isplitr; · iexact HR
    isplitr; · iexact Hlev
    isplitl [HcB]; · iexact HcB
    isplitl [HO]; · iexact HO
    iexact HaB
  iintro ⟨⟨%W1, HO⟩, HzB, Hp0, Hp1, Hp2⟩
  rw [show owMid c = 0 + owR c 2 + owR c 1 + owR c 0 by unfold owMid; rw [zero_add]]
  -- the three transfers
  iapply (step_send m ρ K 0 c _ (dev4_eq c) rfl rfl rfl (0 + owR c 2 + owR c 1) W1) $$ [Hy0 Hp0 HO HtS0 HtR0]
  · isplitr; · iexact HR
    isplitl [Hy0]; · iexact Hy0
    isplitl [Hp0]; · iexact Hp0
    isplitl [HO]; · iexact HO
    isplitl [HtS0] <;> iassumption
  iintro ⟨HcS0, HO⟩
  iapply (step_send m ρ K 1 c _ (dev5_eq c) rfl rfl rfl (0 + owR c 2) W1) $$ [Hy1 Hp1 HO HtS1 HtR1]
  · isplitr; · iexact HR
    isplitl [Hy1]; · iexact Hy1
    isplitl [Hp1]; · iexact Hp1
    isplitl [HO]; · iexact HO
    isplitl [HtS1] <;> iassumption
  iintro ⟨HcS1, HO⟩
  iapply (step_send m ρ K 2 c _ (dev6_eq c) rfl rfl rfl 0 W1) $$ [Hy2 Hp2 HO HtS2 HtR2]
  · isplitr; · iexact HR
    isplitl [Hy2]; · iexact Hy2
    isplitl [Hp2]; · iexact Hp2
    isplitl [HO]; · iexact HO
    isplitl [HtS2] <;> iassumption
  iintro ⟨HcS2, HO⟩
  -- the device's own contribution
  unfold yPts
  iapply (wp_load 𝒱₀ (c : Thread nD τ) none Set.univ (m := yM) (by rw [y_set]; exact Finset.subset_univ _)) $$ Hy; iintro Hy
  rw [read_y]
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [write_o, show k0_pay14 (k0_pay7 (Scalar.remsi (Scalar.divsi (Dev.word c) 1#32) 4#32) (k0_pay1 (iAt m ρ c)) (k0_pay3 (k0_pay2 (iAt m ρ c))) k0_pay4 k0_pay5) (yAt m ρ c)
      = outAt m ρ c 0 from rfl]
  -- the landing in slot 0, and its contribution
  iapply (step_wait m ρ K true 0 c (q := rcvS 0) rfl (srcM := yM) (dst := slotM 0) rfl W1) $$ [HcR0 HO HaR0]
  · isplitr; · iexact HR
    isplitl [HcR0]; · iexact HcR0
    isplitl [HO] <;> iassumption
  iintro ⟨⟨%W2, HO⟩, HzR0, Hpay⟩
  ihave Hp := (Entails.of_eq (rest_rcv m ρ c 0)) $$ Hpay
  unfold rcvPay
  icases Hp with ⟨%f0, %hf0, Hs0⟩
  iapply (wp_load 𝒱₀ (c : Thread nD τ) none Set.univ (m := oM) (Finset.subset_univ _)) $$ Hout; iintro Hout
  rw [read_o]
  iapply (step_load 0 c f0) $$ Hs0; iintro Hs0
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [write_o, pay15_eq, pay18_eq _ _ _ (yAt m ρ (src 0 c)) ((read_slot 0 f0).trans hf0),
    show addRows (pick (Scalar.remsi (Scalar.subi (Scalar.addi (Scalar.remsi (Scalar.divsi (Dev.word c) 1#32) 4#32) 4#32) 1#32) 4#32) (iAt m ρ c)) (outAt m ρ c 0) (yAt m ρ (src 0 c)) = outAt m ρ c 1 from rfl]
  -- the landing in slot 1, and its contribution
  iapply (step_wait m ρ K true 1 c (q := rcvS 1) rfl (srcM := yM) (dst := slotM 1) rfl W2) $$ [HcR1 HO HaR1]
  · isplitr; · iexact HR
    isplitl [HcR1]; · iexact HcR1
    isplitl [HO] <;> iassumption
  iintro ⟨⟨%W3, HO⟩, HzR1, Hpay⟩
  ihave Hp := (Entails.of_eq (rest_rcv m ρ c 1)) $$ Hpay
  unfold rcvPay
  icases Hp with ⟨%f1, %hf1, Hs1⟩
  iapply (wp_load 𝒱₀ (c : Thread nD τ) none Set.univ (m := oM) (Finset.subset_univ _)) $$ Hout; iintro Hout
  rw [read_o]
  iapply (step_load 1 c f1) $$ Hs1; iintro Hs1
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [write_o, pay16_eq, pay19_eq _ _ _ (yAt m ρ (src 1 c)) ((read_slot 1 f1).trans hf1),
    show addRows (pick (Scalar.remsi (Scalar.addi (Scalar.remsi (Scalar.divsi (Dev.word c) 1#32) 4#32) 1#32) 4#32) (iAt m ρ c)) (outAt m ρ c 1) (yAt m ρ (src 1 c)) = outAt m ρ c 2 from rfl]
  -- the landing in slot 2, and its contribution
  iapply (step_wait m ρ K true 2 c (q := rcvS 2) rfl (srcM := yM) (dst := slotM 2) rfl W3) $$ [HcR2 HO HaR2]
  · isplitr; · iexact HR
    isplitl [HcR2]; · iexact HcR2
    isplitl [HO] <;> iassumption
  iintro ⟨⟨%W4, HO⟩, HzR2, Hpay⟩
  ihave Hp := (Entails.of_eq (rest_rcv m ρ c 2)) $$ Hpay
  unfold rcvPay
  icases Hp with ⟨%f2, %hf2, Hs2⟩
  iapply (wp_load 𝒱₀ (c : Thread nD τ) none Set.univ (m := oM) (Finset.subset_univ _)) $$ Hout; iintro Hout
  rw [read_o]
  iapply (step_load 2 c f2) $$ Hs2; iintro Hs2
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [write_o, pay17_eq, pay20_eq _ _ _ (yAt m ρ (src 2 c)) ((read_slot 2 f2).trans hf2),
    show addRows (pick (Scalar.remsi (Scalar.addi (Scalar.remsi (Scalar.divsi (Dev.word c) 1#32) 4#32) 2#32) 4#32) (iAt m ρ c)) (outAt m ρ c 2) (yAt m ρ (src 2 c)) = outAt m ρ c 3 from rfl]
  -- the shares of the rows back
  iapply (step_wait m ρ K false 0 c (q := sndS 0) rfl (srcM := slotM 0) (dst := yM) rfl W4) $$ [HcS0 HO HaS0]
  · isplitr; · iexact HR
    isplitl [HcS0]; · iexact HcS0
    isplitl [HO] <;> iassumption
  iintro ⟨⟨%W5, HO⟩, HzS0, Hpay⟩
  ihave Hy0 := (Entails.of_eq (rest_snd m ρ c 0)) $$ Hpay
  iapply (step_wait m ρ K false 1 c (q := sndS 1) rfl (srcM := slotM 1) (dst := yM) rfl W5) $$ [HcS1 HO HaS1]
  · isplitr; · iexact HR
    isplitl [HcS1]; · iexact HcS1
    isplitl [HO] <;> iassumption
  iintro ⟨⟨%W6, HO⟩, HzS1, Hpay⟩
  ihave Hy1 := (Entails.of_eq (rest_snd m ρ c 1)) $$ Hpay
  iapply (step_wait m ρ K false 2 c (q := sndS 2) rfl (srcM := slotM 2) (dst := yM) rfl W6) $$ [HcS2 HO HaS2]
  · isplitr; · iexact HR
    isplitl [HcS2]; · iexact HcS2
    isplitl [HO] <;> iassumption
  iintro ⟨⟨%W7, HO⟩, HzS2, Hpay⟩
  ihave Hy2 := (Entails.of_eq (rest_snd m ρ c 2)) $$ Hpay
  ihave Hy := (show iprop(yPts m ρ (qOf 0) c ∗ yPts m ρ (qOf 1) c ∗ yPts m ρ (qOf 2) c ∗ yPts m ρ qKeep c) ⊢ _ from (rows_split m ρ c).2) $$ [Hy0 Hy1 Hy2 Hy]
  · isplitl [Hy0]; · iexact Hy0
    isplitl [Hy1]; · iexact Hy1
    isplitl [Hy2]; · iexact Hy2
    unfold yPts; iexact Hy
  ihave Hb := (slots_join (F := F) c ![f0, f1, f2]) $$ [Hs0 Hs1 Hs2]
  · isplitl [Hs0]; · iexact Hs0
    isplitl [Hs1]; · iexact Hs1
    iexact Hs2
  icases Hb with ⟨%fb', Hb⟩
  rw [wp_ret]; imodintro
  iapply Hk
  unfold bodyPost ΦB scratch counters Dat.owesAt Pipeline.owesWithin
  simp only [bigSep_three]
  rw [show (dats m ρ 0 c).owed t0_0.succ = 0 from rfl]
  isplitl [Hy Hb HzB HzS0 HzR0 HzS1 HzR1 HzS2 HzR2]
  · isplitl [Hy Hb]
    · isplitl [Hy]; · iexists _; iexact Hy
      iexists _; iexact Hb
    isplitl [HzB]; · iexact HzB
    isplitl [HzS0 HzR0]; · isplitl [HzS0] <;> iassumption
    isplitl [HzS1 HzR1]; · isplitl [HzS1] <;> iassumption
    isplitl [HzS2] <;> iassumption
  isplitl [HO]
  · iexists W7
    isplitr; · ipureintro; exact fun _ _ => Or.inl trivial
    iexact HO
  isplitl [Hx]; · iexists _; isplitr; · (ipureintro; rfl)
                  iexact Hx
  isplitl [Hi]; · iexists _; isplitr; · (ipureintro; rfl)
                  iexact Hi
  isplitl [Hw]; · iexists _; isplitr; · (ipureintro; rfl)
                  iexact Hw
  iexists _; isplitr; · (ipureintro; rfl)
  iexact Hout

/-- The library's obligation for the body on device `c`. -/
theorem body_obligation (c : Dev nD) : BodyObligation (dats (F := F) m ρ 0 c) (defs₀ (F := F)) 𝒱₀ () Set.univ := fun t => by
  rw [fin_N0 t]
  rw [show (bigSep (Finset.univ : Finset (Fin cfg0.W)) : (Fin cfg0.W → sProp 𝕄) → sProp 𝕄) = fun Φ => iprop(Φ (0 : Fin 4) ∗ Φ (1 : Fin 4) ∗ Φ (2 : Fin 4) ∗ Φ (3 : Fin 4)) from funext bigSep_W0]
  simp only [owns_stg]
  show iprop(ΦA m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
    ⊢ wp frame (wpE (defs₀ (F := F)) 𝒱₀ c none) Set.univ body0 (fun _ => bodyPost m ρ c)
  unfold ΦA start ghost
  iintro ⟨⟨⟨⟨%K, HR, Hl⟩, Hc, Hlev⟩, Hs⟩, Ho, Hst⟩
  iapply (sound_body m ρ K c fun _ => bodyPost m ρ c)
  unfold bodyPre
  isplitr []
  · isplitl [HR Hl Hc Hlev Hs]
    · isplitl [HR]; · iexact HR
      isplitl [Hl]; · iexact Hl
      isplitl [Hc]; · iexact Hc
      isplitl [Hlev] <;> iassumption
    isplitl [Ho] <;> iassumption
  · iintro H; iexact H

end Cert.MoeProof

end
-- ==== Proof.Run.lean ====
/-
# The launch of the four devices

The cells are opened from the counters at zero, their duties' tokens dealt to the devices that pay them, and the
run of the whole program follows: every execution ends, with the output array of each device at `outAt c 3`, its
arguments as they were and every counter at zero.
-/
module

public import proofs.«01_k».proof.Proof.Body
public import Idealize.ShloMosaic.Lib.Pipeline.CollectiveSegs
public import Idealize.ShloMosaic.Lib.Pipeline.ValueKit

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ XU ℕ

variable (m : (ℓ : Loc nD τ sig) → Buf (Elt F) ℓ) (ρ : Dev nD → PrngReg)

/-! ## Cells and tokens at launch -/

/-- The kernel's own six semaphores. -/
abbrev osem : Fin 6 → SemLoc sig := fun
  | 0 => semK (some (false, 0)) | 1 => semK (some (false, 1)) | 2 => semK (some (false, 2))
  | 3 => semK (some (true, 0)) | 4 => semK (some (true, 1)) | 5 => semK (some (true, 2))

theorem ownSemFacts : Pipeline.OwnSemFacts cfg0.spec osem := by decide

theorem share_full (c : Dev nD) (w : Fin cfg0.W) : (dats m ρ 0 c).share w = fullShare := by unfold Dat.share; split <;> rfl

def cellE : Dev nD × Kind ↪ GSem nD τ sig := ⟨fun x => cell x.1 x.2, fun _ _ h => Prod.ext (cell_inj h).1 (cell_inj h).2⟩
def allCells : Finset (GSem nD τ sig) := Finset.univ.map cellE

/-- Token `(t, j)` of device `c`'s own cells: of barrier duty `j`, of send `j`, of receive `j`. -/
def tokOf (x : Dev nD × Fin 3 × Fin 3) : GSem nD τ sig × ℕ × Fin 3 := match x.2.1 with
  | 0 => (barC x.1, 0, x.2.2) | 1 => (sndC x.2.2 x.1, 0, 0) | 2 => (rcvC x.2.2 x.1, 0, 0)

theorem tokOf_inj : Function.Injective tokOf := by
  rintro ⟨c, t, j⟩ ⟨c', t', j'⟩ h
  have hc := congrArg Prod.fst h
  have hd := congrArg (fun x : GSem nD τ sig × ℕ × Fin 3 => x.2.2) h
  fin_cases t <;> fin_cases t' <;> obtain ⟨h1, h2⟩ := cell_inj hc <;> first
    | (subst h1; change j = j' at hd; subst hd; rfl)
    | (subst h1; cases h2; rfl)
    | exact absurd h2 (by simp)
def allToks : Finset (GSem nD τ sig × ℕ × Fin 3) := Finset.univ.map ⟨tokOf, tokOf_inj⟩

def u₀ : XU := (initOf (Pipeline.cells cfgs cellOf_inj) (Pipeline.launchToks cfgs cellOf_inj), initOf allCells allToks)

/-- The tokens of a device's own cells, for transfer `j`. -/
def mints (j : Fin 3) (c : Dev nD) : sProp 𝕄 :=
  iprop(dutyTok EX (barC c) 0 j ∗ dutyTok EX (sndC j c) 0 0 ∗ dutyTok EX (rcvC j c) 0 0)

/-- What the launch deals a device, -/
def deal (c : Dev nD) : sProp 𝕄 :=
  iprop((bigSep Finset.univ fun k : Kind => roundState EX (sched m ρ) (cell c k) 0)
    ∗ (bigSep Finset.univ fun k : Kind => iprop(atPos EX (cell c k) 0 ∅ 0 ∗ reached EX (cell c k) 0)) ∗ bigSep Finset.univ fun j => mints j c)

omit [FloatOps F] in
theorem bigSep_kind (Φ : Kind → sProp 𝕄) : bigSep Finset.univ Φ
    = iprop(Φ none ∗ Φ (some (false, 0)) ∗ Φ (some (false, 1)) ∗ Φ (some (false, 2)) ∗ Φ (some (true, 0)) ∗ Φ (some (true, 1)) ∗ Φ (some (true, 2))) :=
  bigSep_univ_eq_bigSepL [none, some (false, 0), some (false, 1), some (false, 2), some (true, 0), some (true, 1), some (true, 2)] (by decide) (by decide) Φ

theorem mints_of : (bigSep allToks fun x => (dutyTok EX x.1 x.2.1 x.2.2 : sProp 𝕄)) = bigSep Finset.univ fun c : Dev nD => bigSep Finset.univ fun j => mints j c := by
  unfold allToks
  rw [bigSep_map, bigSep_univ_prod]
  refine bigSep_congr fun c _ => ?_
  rw [bigSep_univ_prod, bigSep_three]
  unfold mints
  rw [bigSep_sep', bigSep_sep']
  rfl

theorem cells_of (Φ : GSem nD τ sig → sProp 𝕄) : bigSep allCells Φ = bigSep Finset.univ fun c : Dev nD => bigSep Finset.univ fun k : Kind => Φ (cell c k) := by
  unfold allCells; rw [bigSep_map, bigSep_univ_prod]; rfl

theorem fund_all : BI.own (EX (initOf allCells allToks)) ⊢ (|==> bigSep Finset.univ (deal m ρ) : sProp 𝕄) := by
  iintro HX
  imod (Rounds.fund EX (sched m ρ) allCells allToks) $$ HX with ⟨Hst, Hr, Hat, Htok⟩
  imodintro
  ihave Hst := (Entails.of_eq (cells_of fun g => roundState EX (sched m ρ) g 0)) $$ Hst
  ihave Hat := (Entails.of_eq (cells_of (F := F) fun g => atPos EX g 0 ∅ 0)) $$ Hat
  ihave Hr := (Entails.of_eq (cells_of (F := F) fun g => reached EX g 0)) $$ Hr
  ihave Htok := (Entails.of_eq (mints_of (F := F))) $$ Htok
  unfold deal; simp only [bigSep_sep']
  isplitl [Hst]; · iexact Hst
  isplitl [Hat Hr]
  · isplitl [Hat]; · iexact Hat
    iexact Hr
  iexact Htok

/-! ## The counters opened -/

omit [FloatOps F] in
theorem ownSems0_eq (c : Dev nD) : (Pipeline.ownSems0 (Ix := Unit) (Name := ℕ) (U := XU) (Lvl := ℕ) (Val := Elt F) (τ := τ) osem c : sProp 𝕄)
    = iprop(semVal (sndC 0 c) 0 ∗ semVal (sndC 1 c) 0 ∗ semVal (sndC 2 c) 0 ∗ semVal (rcvC 0 c) 0 ∗ semVal (rcvC 1 c) 0 ∗ semVal (rcvC 2 c) 0) := by
  rw [Pipeline.ownSems0_eq_of_list c osem [0, 1, 2, 3, 4, 5] (by decide) (by decide)]; rfl
omit [FloatOps F] in
theorem unscopedSems0_eq (c : Dev nD) : (unscopedSems0 c : sProp 𝕄) = semVal (barC c) 0 := by
  unfold unscopedSems0; rw [bigSep_eq_bigSepL_of_eq [SemLoc.reg barS] (by decide) (by decide)]; rfl

omit [FloatOps F] in
theorem counters_kinds (c : Dev nD) :
    iprop(Pipeline.ownSems0 (Ix := Unit) (Name := ℕ) (U := XU) (Lvl := ℕ) (Val := Elt F) (τ := τ) osem c ∗ unscopedSems0 c)
      ⊢ (bigSep Finset.univ fun k : Kind => semVal (cell c k) 0 : sProp 𝕄) := by
  rw [ownSems0_eq, unscopedSems0_eq, bigSep_kind]
  iintro ⟨Hs, HB⟩
  isplitl [HB]; · iexact HB
  iexact Hs

theorem open_cells (c : Dev nD) :
    iprop(Pipeline.ownSems0 (Ix := Unit) (Name := ℕ) (U := XU) (Lvl := ℕ) (Val := Elt F) (τ := τ) osem c ∗ unscopedSems0 c ∗ deal m ρ c)
      ⊢ |={Set.univ}=> iprop((bigSep Finset.univ fun k => iprop(∃ κ : ℕ, cellInv EX (sched m ρ) κ (cell c k)))
          ∗ (bigSep Finset.univ fun k : Kind => iprop(atPos EX (cell c k) 0 ∅ 0 ∗ reached EX (cell c k) 0)) ∗ bigSep Finset.univ fun j => mints j c) := by
  have hopen : iprop((bigSep Finset.univ fun k : Kind => semVal (cell c k) 0) ∗ bigSep Finset.univ fun k : Kind => roundState EX (sched m ρ) (cell c k) 0)
      ⊢ (|={Set.univ}=> bigSep Finset.univ fun k => iprop(∃ κ : ℕ, cellInv EX (sched m ρ) κ (cell c k)) : sProp 𝕄) := by
    rw [← bigSep_sep']
    exact (bigSep_mono fun k _ => (Rounds.body_intro EX (sched m ρ) (cell c k)).trans inv_alloc).trans (bigSep_fupd _ _)
  unfold deal
  iintro ⟨Hos, Hus, Hst, Hrest⟩
  ihave Hv := (counters_kinds (F := F) c) $$ [Hos Hus]
  · isplitl [Hos] <;> iassumption
  imod (hopen) $$ [Hv Hst] with Hinv
  · isplitl [Hv] <;> iassumption
  imodintro
  isplitl [Hinv]; · iexact Hinv
  iexact Hrest

/-! ## The tokens dealt to the payers -/

theorem mints_pays : (bigSep Finset.univ fun c : Dev nD => bigSep Finset.univ fun j => (mints j c : sProp 𝕄)) ⊢ bigSep Finset.univ fun c : Dev nD => bigSep Finset.univ fun j => pays j c := by
  have h (j : Fin 3) : (bigSep Finset.univ fun c : Dev nD => (mints j c : sProp 𝕄)) = bigSep Finset.univ fun c : Dev nD => pays j c := by
    unfold mints pays
    rw [bigSep_sep', bigSep_sep', bigSep_sep', bigSep_sep',
      bigSep_univ_equiv (ringEquiv j).symm (fun c : Dev nD => (dutyTok EX (barC c) 0 j : sProp 𝕄)),
      bigSep_univ_equiv (ringEquiv j) (fun c : Dev nD => (dutyTok EX (rcvC j c) 0 0 : sProp 𝕄))]
    rfl
  simp only [bigSep_three, bigSep_sep', h]
  exact BI.Entails.refl _

omit [FloatOps F] in
theorem sep_persistent_bigSep {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

theorem ghost_of (K : Dev nD × Kind → ℕ) (c : Dev nD) :
    iprop(records m ρ K ∗ (bigSep Finset.univ fun k : Kind => atPos EX (cell c k) 0 ∅ 0) ∗ bigSep Finset.univ fun j => pays j c) ⊢ ghost m ρ c := by
  unfold ghost linear ats
  rw [bigSep_kind]
  simp only [bigSep_three]
  iintro ⟨HR, ⟨HB, H0, H1, H2, G0, G1, G2⟩, Hp⟩
  iexists K
  isplitl [HR]; · iexact HR
  isplitl [HB]; · iexact HB
  isplitl [H0 H1 H2 G0 G1 G2]
  · isplitl [H0 G0]; · isplitl [H0] <;> iassumption
    isplitl [H1 G1]; · isplitl [H1] <;> iassumption
    isplitl [H2] <;> iassumption
  iexact Hp

theorem share_out :
    (bigSep Finset.univ fun c : Dev nD => iprop((bigSep Finset.univ fun k => iprop(∃ κ : ℕ, cellInv EX (sched m ρ) κ (cell c k)))
          ∗ (bigSep Finset.univ fun k : Kind => iprop(atPos EX (cell c k) 0 ∅ 0 ∗ reached EX (cell c k) 0)) ∗ bigSep Finset.univ fun j => mints j c) : sProp 𝕄)
      ⊢ bigSep Finset.univ (ghost m ρ) := by
  rw [bigSep_sep', bigSep_sep', ← bigSep_univ_prod (fun x : Dev nD × Kind => iprop(∃ κ : ℕ, cellInv EX (sched m ρ) κ (cell x.1 x.2))),
    bigSep_congr (s := Finset.univ) (fun (c : Dev nD) _ => bigSep_sep' Finset.univ (fun k : Kind => (atPos EX (cell c k) 0 ∅ 0 : sProp 𝕄)) (fun k => reached EX (cell c k) 0)),
    bigSep_sep', ← bigSep_univ_prod (fun x : Dev nD × Kind => (reached EX (cell x.1 x.2) 0 : sProp 𝕄))]
  iintro ⟨HI, ⟨Hat, #HR⟩, Htok⟩
  ihave HK := (BI.bigSep_exists_pi Finset.univ (fun (x : Dev nD × Kind) (κ : ℕ) => (cellInv EX (sched m ρ) κ (cell x.1 x.2) : sProp 𝕄))) $$ HI
  icases HK with ⟨%K, #HI⟩
  ihave Hp := (mints_pays (F := F)) $$ Htok
  iapply (sep_persistent_bigSep (R := records m ρ K) fun c _ => ghost_of m ρ K c)
  isplitr
  · unfold records; isplitl; · iexact HI
    iexact HR
  · rw [bigSep_sep']
    isplitl [Hat]; · iexact Hat
    iexact Hp

/-- All devices' counters and deals to all devices' ghost states. -/
theorem set_up : (bigSep Finset.univ fun c => iprop(Pipeline.ownSems0 (Ix := Unit) (Name := ℕ) (U := XU) (Lvl := ℕ) (Val := Elt F) (τ := τ) osem c ∗ unscopedSems0 c ∗ deal m ρ c) : sProp 𝕄)
    ⊢ |={Set.univ}=> bigSep Finset.univ (ghost m ρ) :=
  ((bigSep_mono fun c _ => open_cells m ρ c).trans (bigSep_fupd _ _)).trans (BI.fupd_mono (share_out m ρ))

/-! ## The credits at launch -/

theorem tally_at (c d : Dev nD) (k k' : Kind) (n : ℕ) : (tallyAt (cell d k') () n : CellTallies nD τ sig Unit) (cell c k) () = if d = c ∧ k' = k then n else 0 := by
  rw [tallyAt_apply]
  by_cases h : d = c ∧ k' = k
  · obtain ⟨rfl, rfl⟩ := h; rw [if_pos ⟨rfl, rfl⟩, if_pos ⟨rfl, rfl⟩]
  · rw [if_neg h, if_neg fun h' => h ⟨((cell_inj h'.1).1).symm, ((cell_inj h'.1).2).symm⟩]

theorem owAll_at (d c : Dev nD) (k : Kind) : owAll d (cell c k) () =
    (if tgt 2 d = c ∧ some (true, 2) = k then N else 0) + (if tgt 1 d = c ∧ some (true, 1) = k then N else 0) + (if tgt 0 d = c ∧ some (true, 0) = k then N else 0)
      + (if src 2 d = c ∧ none = k then 1 else 0) + (if src 1 d = c ∧ none = k then 1 else 0) + (if src 0 d = c ∧ none = k then 1 else 0) := by
  unfold owAll owMid
  simp only [Pi.add_apply, Finsupp.add_apply, tally_at]

/-- A barrier cell is owed a unit by each of the three others. -/
theorem launch_bar (c : Dev nD) : tallyOn (barC c) (launchCredit (Pipeline.owing owAll) 0 (barC c)) = (tallyAt (barC c) () 3 : CellTallies nD τ sig Unit) := by
  unfold tallyAt; refine congrArg _ (Finsupp.ext fun u => ?_); cases u
  rw [Pipeline.launchCredit_owing, Finsupp.single_eq_same, Finset.sum_congr rfl fun d _ => owAll_at d c none]
  revert c; decide +kernel

/-- A receive cell is owed one landing. -/
theorem launch_rcv (j : Fin 3) (c : Dev nD) : tallyOn (rcvC j c) (launchCredit (Pipeline.owing owAll) 0 (rcvC j c)) = (tallyAt (rcvC j c) () N : CellTallies nD τ sig Unit) := by
  unfold tallyAt; refine congrArg _ (Finsupp.ext fun u => ?_); cases u
  rw [Pipeline.launchCredit_owing, Finsupp.single_eq_same, Finset.sum_congr rfl fun d _ => owAll_at d c _]
  generalize N = n
  have h : (j' : Fin 3) → ∀ d, (tgt j' d = c) = (d = src j' c) := fun j' d => propext ⟨fun h => by rw [← h, src_tgt], fun h => by rw [h, tgt_src]⟩
  match j with
  | 0 => simp [h 0]
  | 1 => simp [h 1]
  | 2 => simp [h 2]

omit [FloatOps F] in
theorem creds (c : Dev nD) : (Pipeline.launchCred owAll c : sProp 𝕄) ⊢ credits c := by
  unfold Pipeline.launchCred credits
  rw [bigSep_univ_at _ (semK none), show ((c : Thread nD τ), semK none) = barC c from rfl, launch_bar]
  refine sep_mono_right ?_
  refine (bigSep_subset (t := Finset.univ.map ⟨fun j : Fin 3 => semK (some (true, j)), fun a b h => (Prod.ext_iff.mp (Option.some.inj (semK_inj h))).2⟩) fun x hx => ?_).trans ?_
  · obtain ⟨j, -, rfl⟩ := Finset.mem_map.mp hx
    exact Finset.mem_sdiff.mpr ⟨Finset.mem_univ _, fun h => nomatch (semK_inj (a₁ := some (true, j)) (a₂ := none) (Finset.mem_singleton.mp h))⟩
  · rw [bigSep_map]
    exact bigSep_mono fun j _ => Entails.of_eq (congrArg cred (launch_rcv j c))

/-! ## The side conditions of the launch -/

/-- The argument that the kernel never reads, as it was. -/
def spare (c : Dev nD) : sProp 𝕄 := ((c : Thread nD τ).loc main_arg1) ↦{fullShare} m ((c : Thread nD τ).loc main_arg1)

theorem start_of (c : Dev nD) :
    iprop(Pipeline.unscopedRestP Pipeline.Prefetch.none cfg0.spec c (fun b => m ((c : Thread nD τ).loc b)) ∗ levAts L lv
        ∗ Pipeline.launchCred owAll c ∗ prngReg c (ρ c) ∗ ghost m ρ c)
      ⊢ |={Set.univ}=> iprop(start m ρ c ∗ spare m c) := by
  rw [Pipeline.unscopedRestP_none, unscopedRest0_eq]
  unfold spare
  iintro ⟨Hsp, Hlev, Hcr, -, HG⟩
  ihave Hc := (creds (F := F) c) $$ Hcr
  imodintro
  unfold start
  isplitr [Hsp]
  · isplitl [HG]; · iexact HG
    isplitl [Hc] <;> iassumption
  · iexact Hsp

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = ΦA m ρ c from rfl, scopedRest0_eq]
  unfold ΦA scratch
  iintro ⟨Hs, -, Hr⟩
  isplitl [Hs]; · iexact Hs
  iexact Hr

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = ΦB c from rfl, scopedRest0_eq, ownSems0_eq, unscopedSems0_eq]
  unfold ΦB scratch counters
  rw [bigSep_three]
  iintro ⟨Hr, HB, ⟨HS0, HR0⟩, ⟨HS1, HR1⟩, HS2, HR2⟩
  isplitl [HB]; · iexact HB
  isplitr [Hr]
  · isplitl [HS0]; · iexact HS0
    isplitl [HS1]; · iexact HS1
    isplitl [HS2]; · iexact HS2
    isplitl [HR0]; · iexact HR0
    isplitl [HR1] <;> iassumption
  · iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What window `w`'s array holds at the end. -/
def finalA (c : Dev nD) (w : Fin cfg0.W) : Buf (Elt F) ((cfg0.win w).arr.view.loc (c : Thread nD τ)) := (dats m ρ 0 c).arrAt w cfg0.N

/-- At the end: the arrays of the windows, and the argument that is no window's. -/
def Ends : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

set_option maxRecDepth 8000 in
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_full m ρ)
    (hdistinct := winFacts0.arr_inj)
    (O₀ := owAll) (howed₀ := fun _ => rfl) (howedN := fun _ => rfl)
    (L := L) (lv := lv) (hL := L_of_ne) (hwaits := waits m ρ)
    (G := deal m ρ) (G' := ghost m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := set_up m ρ)
    (hA := fun _ _ => rfl) (hpf := fun _ k => k.elim0)
    (X := start m ρ) (Y := fun c => unscopedSems0 c) (Z := spare m)
    (hX := start_of m ρ) (hin := enter m ρ) (hout := leave m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      unfold spare
      iintro ⟨Hu, Hsp, HSI⟩
      icombine HSI Hsp gives %h
      imod (Pipeline.unscopedSems0_read (X := unscopedSems0 c) (c := c) fupd_intro s') $$ [Hu HSI] with ⟨%hz, HSI⟩
      · isplitl [Hu] <;> iassumption
      imodintro
      isplitr; · ipureintro; exact ⟨hz, Buf.eq_of_forall_mem_univ h⟩
      iexact HSI)
    (hQ := fun _ h hs => ⟨fun c => ⟨(h c).1, (h c).2.2.2⟩, sem_eq_zero hs fun c => (h c).2.2.1⟩)

/-! ## What the arrays hold at the end -/

theorem final_arg (c : Dev nD) (w : Fin cfg0.W) (hw : (cfg0.win w).isOut = false) :
    finalA m ρ c w = (s₀ m ρ).mem ((cfg0.win w).arr.view.loc (c : Thread nD τ)) :=
  (dats (F := F) m ρ 0 c).arrAt_in w hw _

/-- The arguments end as they were. -/
theorem kept {r : PUnit × MemSt nD τ sig (Elt F)} (h : Ends m ρ r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  ⟨((h c).1 (0 : Fin 4)).trans (final_arg m ρ c (0 : Fin 4) rfl), (h c).2, ((h c).1 (1 : Fin 4)).trans (final_arg m ρ c (1 : Fin 4) rfl),
    ((h c).1 (2 : Fin 4)).trans (final_arg m ρ c (2 : Fin 4) rfl)⟩

/-- At any floats: the run ends with the arguments as they were and every counter at zero. -/
theorem frame_any : θ_run defs (onTc (τ := τ) (main (F := F))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun _ h => ⟨fun c => kept m ρ h.1 c, h.2⟩) (run_main m ρ)

/-- The staged inputs are the arguments as launched. -/
theorem xAt_eq (c : Dev nD) : xAt m ρ c = m ((c : Thread nD τ).loc main_arg0) :=
  Memref.read_access_unit_zero (Elt F) main_arg0
    (show (fun a => (win0_0.index (0 : Fin 1)) a * main_arg0.ty.shape.size a) = fun _ => 0 from funext fun a => by fin_cases a <;> rfl)
    (fun a => by fin_cases a <;> decide) _
theorem iAt_eq (c : Dev nD) : iAt m ρ c = m ((c : Thread nD τ).loc main_arg2) :=
  Memref.read_access_unit_zero (Elt F) main_arg2
    (show (fun a => (win0_1.index (0 : Fin 1)) a * main_arg2.ty.shape.size a) = fun _ => 0 from funext fun a => by fin_cases a <;> rfl)
    (fun a => by fin_cases a <;> decide) _
theorem wAt_eq (c : Dev nD) : wAt m ρ c = m ((c : Thread nD τ).loc main_arg3) :=
  Memref.read_access_unit_zero (Elt F) main_arg3
    (show (fun a => (win0_2.index (0 : Fin 1)) a * main_arg3.ty.shape.size a) = fun _ => 0 from funext fun a => by fin_cases a <;> rfl)
    (fun a => by fin_cases a <;> decide) _
theorem whole_out : win0_3.WholeAt (0 : Fin 1) :=
  ⟨by decide +kernel, fun t _ => Fin.ext (Nat.lt_one_iff.mp t.isLt), fun a => by revert a; decide +kernel⟩

/-- The output array ends at the last of the sums. -/
theorem final_out (c : Dev nD) : finalA m ρ c (3 : Fin 4) = outAt m ρ c 3 := by
  refine (dats m ρ 0 c).arrAt_eq_of_after_last (3 : Fin 4) (0 : Fin 1) whole_out (outAt m ρ c 3) fun j => ?_
  rfl

end Cert.MoeProof

end
-- ==== Proof.Count.lean ====
/-
# Counting the tokens of an expert

`cnt ι i` is token `i`'s place in its expert's queue: how many tokens up to and including `i` have `i`'s expert.
Two tokens of one expert never share a place, so a pair (expert, place) names at most one token.  The 208 slots of
a device are its four experts' 52 places each; the last place of each is never taken.

The sums at the end collect what the slots hold: over a device's slots, and over the devices.
-/
module

public import Mathlib.Data.EReal.Operations
public import Mathlib.Algebra.BigOperators.Fin
public import Mathlib.Logic.Equiv.Fin.Basic
public import Mathlib.Data.Fintype.Card

@[expose] public section

noncomputable section

namespace Cert.MoeProof

open Finset

/-- Token `i`'s place in its expert's queue, from 1. -/
def cnt (ι : Fin 1024 → BitVec 32) (i : Fin 1024) : ℕ := (univ.filter fun r => r ≤ i ∧ ι r = ι i).card

variable {ι : Fin 1024 → BitVec 32} {i i' : Fin 1024}

theorem cnt_pos : 1 ≤ cnt ι i := card_pos.2 ⟨i, by simp⟩

theorem cnt_lt (h : ι i = ι i') (hl : i < i') : cnt ι i < cnt ι i' := by
  refine card_lt_card (ssubset_iff_of_subset (fun r hr => ?_) |>.2 ⟨i', by simp, by simp [hl]⟩)
  simp only [mem_filter, mem_univ, true_and] at hr ⊢
  exact ⟨hr.1.trans hl.le, hr.2.trans h⟩

/-- One expert's tokens have different places. -/
theorem cnt_inj (h : ι i = ι i') (hc : cnt ι i = cnt ι i') : i = i' := by
  rcases lt_trichotomy i i' with hl | rfl | hl
  · exact absurd hc (cnt_lt h hl).ne
  · rfl
  · exact absurd hc (cnt_lt h.symm hl).ne'

/-- Slot `t` of device `d` takes token `i`. -/
def Takes (ι : Fin 1024 → BitVec 32) (d : Fin 4) (t : Fin 208) (i : Fin 1024) : Prop :=
  ι i = BitVec.ofNat 32 (4 * d.val + t.val / 52) ∧ cnt ι i = t.val % 52 + 1 ∧ t.val % 52 < 51

/-- A slot takes one token at most. -/
theorem Takes.inj {d : Fin 4} {t : Fin 208} (h : Takes ι d t i) (h' : Takes ι d t i') : i = i' :=
  cnt_inj (h.1.trans h'.1.symm) (h.2.1.trans h'.2.1.symm)

open Classical in
/-- Gathering by a slot that takes token `i` gives what `f` is at `i`. -/
theorem sum_takes {d : Fin 4} {t : Fin 208} (h : Takes ι d t i) (f : Fin 1024 → EReal) :
    ∑ r, (if Takes ι d t r then (1 : EReal) else 0) * f r = f i := by
  rw [sum_eq_single i (fun r _ hr => by rw [if_neg fun hr' => hr (hr'.inj h), zero_mul]) (fun h => absurd (mem_univ i) h),
    if_pos h, one_mul]

/-- Token `i` is served by expert `e`: it is routed there, and 50 tokens at most were so before it. -/
def Served (ι : Fin 1024 → BitVec 32) (i : Fin 1024) (e : ℕ) : Prop := ι i = BitVec.ofNat 32 e ∧ cnt ι i ≤ 51

open Classical in
/-- Over the slots of a device: each of its four experts serves the token from one slot, or from none. -/
theorem sum_slots (d : Fin 4) (E : ℕ → EReal) :
    ∑ t : Fin 208, (if Takes ι d t i then E (4 * d.val + t.val / 52) else 0)
      = ∑ j : Fin 4, if Served ι i (4 * d.val + j.val) then E (4 * d.val + j.val) else 0 := by
  rw [← (finProdFinEquiv (m := 4) (n := 52)).sum_comp fun t : Fin 208 => if Takes ι d t i then E (4 * d.val + t.val / 52) else 0,
    Fintype.sum_prod_type]
  refine sum_congr rfl fun j _ => ?_
  have hv : ∀ s : Fin 52, ((finProdFinEquiv (m := 4) (n := 52) (j, s) : Fin 208).val / 52 = j.val)
      ∧ (finProdFinEquiv (m := 4) (n := 52) (j, s) : Fin 208).val % 52 = s.val := fun s => by
    have hs := s.isLt
    rw [finProdFinEquiv_apply_val]
    dsimp only
    omega
  simp only [Takes, (hv _).1, (hv _).2]
  have hp := cnt_pos (ι := ι) (i := i)
  by_cases h : Served ι i (4 * d.val + j.val)
  · have hlt : cnt ι i - 1 < 52 := by have := h.2; omega
    rw [if_pos h, sum_eq_single (⟨cnt ι i - 1, hlt⟩ : Fin 52) (fun s _ hs => if_neg fun hs' => hs (Fin.ext ?_)) (fun h => absurd (mem_univ _) h)]
    · exact if_pos ⟨h.1, by dsimp only; omega, by have := h.2; dsimp only; omega⟩
    · have := hs'.2.1; dsimp only; omega
  · rw [if_neg h]
    exact sum_eq_zero fun s _ => if_neg fun hs => h ⟨hs.1, by have := hs.2; omega⟩

/-- Over the devices: every expert once. -/
theorem sum_devices (G : ℕ → EReal) : ∑ d : Fin 4, ∑ j : Fin 4, G (4 * d.val + j.val) = ∑ e : Fin 16, G e.val := by
  rw [← (finProdFinEquiv (m := 4) (n := 4)).sum_comp fun e : Fin 16 => G e.val, Fintype.sum_prod_type]
  refine sum_congr rfl fun d _ => sum_congr rfl fun j _ => ?_
  rw [finProdFinEquiv_apply_val, Nat.add_comm]

end Cert.MoeProof

end
-- ==== Proof.Pick.lean ====
/-
# The matrix of zeros and ones, element by element

The kernel finds a token's place in its expert's queue by a product with a triangular matrix of ones; over the ideal
reals that product is the count.  A slot's column of the matrix `pick` then has its one in the row of the token that
the slot takes.
-/
module

public import proofs.«01_k».proof.Proof.Proto
public import proofs.«01_k».proof.Proof.Count
public import Idealize.ShloMosaic.Lib.Pointwise

@[expose] public section

noncomputable section

namespace Cert.MoeProof

open Cert.KernelIdeal Cert.KernelIdeal.Gen
open Idealize.ShloMosaic

/-- The tokens' experts. -/
abbrev toks (idx : Vec Ideal S1024x1 .i32) (i : Fin 1024) : BitVec 32 := idx (ix2 i 0)

/-- A widened bit as an ideal real. -/
theorem real_bit (φ : FTy) (b : Bool) :
    FloatOps.sitofp (F := Ideal) φ ((BitVec.ofBool b).setWidth 32) = if b then (1 : EReal) else 0 := by
  show ((((BitVec.ofBool b).setWidth 32).toInt : ℝ) : EReal) = _
  cases b
  · rw [show ((BitVec.ofBool false).setWidth 32).toInt = 0 by decide]; simp
  · rw [show ((BitVec.ofBool true).setWidth 32).toInt = 1 by decide]; simp

theorem expert_inj : ∀ a b : Fin 16, BitVec.ofNat 32 a.val = BitVec.ofNat 32 b.val → a = b := by decide +kernel

theorem sle_tok (a b : Fin 1024) : (BitVec.ofNat 32 a.val).sle (BitVec.ofNat 32 b.val) = decide (a ≤ b) := by
  have ha := a.isLt
  have hb := b.isLt
  rw [BitVec.sle_eq_decide, BitVec.toInt_ofNat', BitVec.toInt_ofNat']
  refine decide_eq_decide.2 ?_
  rw [Int.bmod_eq_of_le (by omega) (by omega), Int.bmod_eq_of_le (by omega) (by omega), Fin.le_def]
  omega

theorem sum_ones {α : Type} (s : Finset α) (p : α → Prop) [DecidablePred p] :
    ∑ r ∈ s, (if p r then (1 : EReal) else 0) = (((s.filter p).card : ℝ) : EReal) := by
  rw [Finset.sum_boole]; norm_cast

/-- The place of a token of an expert. -/
theorem place_apply (idx : Vec Ideal S1024x1 .i32) (i : Fin 1024) (e : Fin 16) (h : toks idx i = BitVec.ofNat 32 e.val) :
    k0_pay3 (F := Ideal) (k0_pay2 idx) (ix2 i 0) = ((cnt (toks idx) i : ℝ) : EReal) := by
  classical
  pointwise [k0_pay3, k0_pay2, k0_pay1]
  unfold IntOp.cmpi
  simp only [real_bit, sle_tok]
  have h' : idx (ix2 i 0) = BitVec.ofNat 32 e.val := h
  rw [Finset.sum_eq_single e]
  · rw [h']
    simp only [beq_self_eq_true, if_true, one_mul]
    have : ∀ r : Fin 1024, (if decide (r ≤ i) = true then (1 : EReal) else 0) * (if (idx (ix2 r 0) == BitVec.ofNat 32 e.val) = true then 1 else 0)
        = if r ≤ i ∧ toks idx r = toks idx i then 1 else 0 := fun r => by
      rw [h, ite_and]
      by_cases h1 : r ≤ i <;> simp [h1]
    rw [Finset.sum_congr rfl fun r _ => this r, sum_ones]
    unfold cnt
    congr!
  · intro x _ hx
    rw [h', if_neg, zero_mul]
    intro hb
    exact hx (expert_inj e x (by simpa using hb)).symm
  · exact fun h => absurd (Finset.mem_univ e) h

/-- A slot's expert among the device's four. -/
theorem slot_expert (i : Fin 1024) (t : Fin 208) : k0_pay4 (ix2 i t) = BitVec.ofNat 32 (t.val / 52) := by
  pointwise [k0_pay4]
  revert t
  decide +kernel

/-- A slot's place in that expert's queue. -/
theorem slot_place (i : Fin 1024) (t : Fin 208) : k0_pay5 (ix2 i t) = BitVec.ofNat 32 (t.val % 52 + 1) := by
  pointwise [k0_pay5]
  revert t
  decide +kernel

theorem slot_word : ∀ (d : Fin 4) (t : Fin 208), IntOp.addi (Scalar.muli (BitVec.ofNat 32 d.val) 4#32) (BitVec.ofNat 32 (t.val / 52))
    = BitVec.ofNat 32 (4 * d.val + t.val / 52) := by decide +kernel

theorem place_sle : ∀ t : Fin 208, (BitVec.ofNat 32 (t.val % 52 + 1)).sle 51#32 = decide (t.val % 52 < 51) := by decide +kernel
theorem place_int : ∀ t : Fin 208, (BitVec.ofNat 32 (t.val % 52 + 1)).toInt = ((t.val % 52 + 1 : ℕ) : ℤ) := by decide +kernel

open Classical in
/-- The matrix has a one where the slot takes the token, and zeros elsewhere. -/
theorem pick_apply (idx : Vec Ideal S1024x1 .i32) (d : Fin 4) (i : Fin 1024) (t : Fin 208) :
    pick (F := Ideal) (BitVec.ofNat 32 d.val) idx (ix2 i t) = if Takes (toks idx) d t i then (1 : EReal) else 0 := by
  unfold pick
  pointwise [k0_pay7, k0_pay6]
  rw [slot_expert, slot_place, slot_word]
  unfold IntOp.cmpi IntOp.andi
  simp only [place_sle, ← BitVec.ofBool_and_ofBool, BitVec.ofBool_and_ofBool, real_bit]
  refine if_congr ?_ rfl rfl
  rw [Bool.and_eq_true, Bool.and_eq_true, beq_iff_eq, decide_eq_true_eq, decide_eq_true_eq, and_assoc]
  rw [show k0_pay1 (F := Ideal) idx (ix2 i 0) = toks idx i by pointwise [k0_pay1]]
  unfold Takes
  refine and_congr_right fun h => and_congr_left fun _ => ?_
  have ht := t.isLt
  have hd := d.isLt
  have hp := place_apply idx i ⟨4 * d.val + t.val / 52, by omega⟩ h
  rw [hp]
  show _ = (((BitVec.ofNat 32 (t.val % 52 + 1)).toInt : ℝ) : EReal) ↔ _
  rw [place_int, EReal.coe_eq_coe_iff, Int.cast_natCast, Nat.cast_inj]

end Cert.MoeProof

end
-- ==== Proof.Rows.lean ====
/-
# What a device's rows hold, and what they add to a token's output

Row `t` of a device is the product of the token in slot `t` with the matrix of the slot's expert, or zero if the
slot is empty.  Multiplied by the matrix of zeros and ones again, a token gets back the row of its slot: so the
device adds to the token the product with its expert's matrix if one of the device's experts serves the token,
and nothing otherwise.
-/
module

public import proofs.«01_k».proof.Proof.Pick
public import Idealize.ShloMosaic.Lib.Layout

@[expose] public section

noncomputable section

namespace Cert.MoeProof

open Cert.KernelIdeal Cert.KernelIdeal.Gen
open Idealize.ShloMosaic

/-- The whole array of the experts' matrices. -/
abbrev Experts : Type := Vec Ideal ⟨3, ![16, 256, 512]⟩ .f32

/-- Token `i` times the matrix of expert `e`, at column `n`. -/
def prod (x : Vec Ideal S1024x256 .f32) (W : Experts) (i : Fin 1024) (n : Fin 512) (e : ℕ) : EReal :=
  if h : e < 16 then ∑ k : Fin 256, x (ix2 i k) * W (ix3 ⟨e, h⟩ k n) else 0

open Classical in
/-- The result: the product with the expert that serves the token, if one does. -/
def moe (x : Vec Ideal S1024x256 .f32) (idx : Vec Ideal S1024x1 .i32) (W : Experts) (i : Fin 1024) (n : Fin 512) : EReal :=
  ∑ e : Fin 16, if Served (toks idx) i e.val then prod x W i n e.val else 0

theorem wSlice_apply (ws : Vec Ideal S4x256x512 .f32) (j : Fin 4) (z : Fin 1) (k : Fin 256) (n : Fin 512) :
    wSlice (F := Ideal) j ws (ix3 z k n) = ws (ix3 j k n) := by
  show ws _ = ws _
  congr 1
  funext a
  refine Fin.ext ?_
  fin_cases a
  · show j.val + 1 * z.val = j.val; have := z.isLt; omega
  · show 0 + 1 * k.val = k.val; omega
  · show 0 + 1 * n.val = n.val; omega

set_option maxHeartbeats 1000000 in
/-- The rows, element by element. -/
theorem rows_apply (w : BitVec 32) (idx : Vec Ideal S1024x1 .i32) (x : Vec Ideal S1024x256 .f32) (ws : Vec Ideal S4x256x512 .f32)
    (t : Fin 208) (n : Fin 512) :
    rowsOf (F := Ideal) w idx x ws (ix2 t n)
      = ∑ k : Fin 256, (∑ r : Fin 1024, pick (F := Ideal) w idx (ix2 r t) * x (ix2 r k)) * ws (ix3 ⟨t.val / 52, by omega⟩ k n) := by
  have ht := t.isLt
  have key : ∀ (G : FVec Ideal S1024x208 .bf16) (t' : Fin 208) (j : Fin 4), t'.val = t.val → j.val = t.val / 52 →
      ∑ k : Fin 256, (∑ r : Fin 1024, G (ix2 r t') * x (ix2 r k)) * wSlice j ws (ix3 0 k n)
        = ∑ k : Fin 256, (∑ r : Fin 1024, G (ix2 r t) * x (ix2 r k)) * ws (ix3 ⟨t.val / 52, by omega⟩ k n) := by
    intro G t' j e hj
    have ej : (⟨t.val / 52, by omega⟩ : Fin 4) = j := Fin.ext hj.symm
    rw [Fin.ext e, ej]
    simp only [wSlice_apply]
  have v0 : ((0 : Fin 4) : ℕ) = 0 := rfl
  have v1 : ((1 : Fin 4) : ℕ) = 1 := rfl
  have v2 : ((2 : Fin 4) : ℕ) = 2 := rfl
  have v3 : ((3 : Fin 4) : ℕ) = 3 := rfl
  unfold rowsOf
  pointwise [k0_pay13, k0_pay9, k0_pay10, k0_pay11, k0_pay12, k0_pay8]
  unfold pick
  generalize k0_pay7 (F := Ideal) w (k0_pay1 idx) (k0_pay3 (k0_pay2 idx)) k0_pay4 k0_pay5 = G
  split_ifs with h0 h1
  · exact key G t 0 rfl (by omega)
  · exact key G ⟨52 + (t.val - 52), by omega⟩ 1 (by dsimp only; omega) (by omega)
  · exact key G ⟨52 + (t.val - 52), by omega⟩ 1 (by dsimp only; omega) (by omega)
  · exact key G ⟨104 + (t.val - 52 - 52), by omega⟩ 2 (by dsimp only; omega) (by omega)
  · exact key G ⟨104 + (t.val - 52 - 52), by omega⟩ 2 (by dsimp only; omega) (by omega)
  · exact key G ⟨156 + (t.val - 52 - 52 - 52), by omega⟩ 3 (by dsimp only; omega) (by omega)
  · exact key G ⟨156 + (t.val - 52 - 52 - 52), by omega⟩ 3 (by dsimp only; omega) (by omega)

/-- Device `d` holds experts `4 d`, …, `4 d` + 3. -/
theorem block_apply (W : Experts) (d j : Fin 4) (k : Fin 256) (n : Fin 512) :
    (Layout.block ⟨3, ![4, 256, 512]⟩ ⟨3, ![16, 256, 512]⟩ 0 4 d W : Vec Ideal S4x256x512 .f32) (ix3 j k n)
      = W (ix3 ⟨4 * d.val + j.val, by omega⟩ k n) := by
  rw [Layout.block_apply]
  congr 1
  funext a
  refine Fin.ext ?_
  rw [Layout.Tiles.idx_val]
  fin_cases a
  · show d.val * 4 + j.val = 4 * d.val + j.val; omega
  · rfl
  · rfl

open Classical in
/-- What device `d` adds to a token. -/
theorem part_apply (idx : Vec Ideal S1024x1 .i32) (x : Vec Ideal S1024x256 .f32) (W : Experts) (d : Fin 4) (i : Fin 1024) (n : Fin 512) :
    ∑ t : Fin 208, pick (F := Ideal) (BitVec.ofNat 32 d.val) idx (ix2 i t)
        * rowsOf (F := Ideal) (BitVec.ofNat 32 d.val) idx x (Layout.block ⟨3, ![4, 256, 512]⟩ ⟨3, ![16, 256, 512]⟩ 0 4 d W) (ix2 t n)
      = ∑ j : Fin 4, if Served (toks idx) i (4 * d.val + j.val) then prod x W i n (4 * d.val + j.val) else 0 := by
  rw [← sum_slots (ι := toks idx) d fun e => prod x W i n e]
  refine Finset.sum_congr rfl fun t _ => ?_
  rw [pick_apply]
  split_ifs with h
  · rw [one_mul, rows_apply]
    have hd := d.isLt
    have ht := t.isLt
    unfold prod
    rw [dif_pos (by omega)]
    refine Finset.sum_congr rfl fun k _ => ?_
    rw [Finset.sum_congr rfl fun r _ => by rw [pick_apply idx d r t], sum_takes h fun r => x (ix2 r k), block_apply]
  · exact zero_mul _

end Cert.MoeProof

end
-- ==== Proof.Out.lean ====
/-
# The output of a device

A device adds up the parts of all four devices, its own first and the others' in the order of the slots; the order
does not matter to the sum.
-/
module

public import proofs.«01_k».proof.Proof.Rows
public import proofs.«01_k».proof.Proof.Run
public import Mathlib.Tactic.Abel

@[expose] public section

noncomputable section

namespace Cert.MoeProof

open Cert.KernelIdeal Cert.KernelIdeal.Gen
open Idealize.ShloMosaic
open Idealize.ShloMosaic.TcCoe

/-- The words that a device computes for its place and for its neighbours' are the device's and theirs. -/
theorem wd_eq : ∀ c : Dev nD, wd c = BitVec.ofNat 32 c.val := by decide +kernel
theorem wdSrc_eq : ∀ (j : Fin 3) (c : Dev nD), wdSrc j c = BitVec.ofNat 32 (src j c).val := by decide +kernel

variable (m : (ℓ : Loc nD τ sig) → Buf (Elt Ideal) ℓ) (ρ : Dev nD → PrngReg)
variable (x : Vec Ideal S1024x256 .f32) (idx : Vec Ideal S1024x1 .i32) (W : Experts)

/-- What device `d` adds at an element. -/
def part (d : Fin 4) (i : Fin 1024) (n : Fin 512) : EReal :=
  ∑ t : Fin 208, pick (F := Ideal) (BitVec.ofNat 32 d.val) idx (ix2 i t)
    * rowsOf (F := Ideal) (BitVec.ofNat 32 d.val) idx x (Layout.block ⟨3, ![4, 256, 512]⟩ ⟨3, ![16, 256, 512]⟩ 0 4 d W) (ix2 t n)

/-- All four together are the result. -/
theorem sum_parts (i : Fin 1024) (n : Fin 512) : ∑ d : Fin 4, part x idx W d i n = moe x idx W i n := by
  classical
  unfold moe
  rw [← sum_devices fun e => if Served (toks idx) i e then prod x W i n e else 0]
  exact Finset.sum_congr rfl fun d _ => by unfold part; rw [part_apply]

theorem own_apply (g : FVec Ideal S1024x208 .bf16) (y : FVec Ideal S208x512 .bf16) (i : Fin 1024) (n : Fin 512) :
    k0_pay14 (F := Ideal) g y (ix2 i n) = ∑ t : Fin 208, g (ix2 i t) * y (ix2 t n) := by
  pointwise [k0_pay14]

theorem add_apply (g : FVec Ideal S1024x208 .bf16) (o : FVec Ideal S1024x512 .f32) (y : FVec Ideal S208x512 .bf16) (i : Fin 1024) (n : Fin 512) :
    addRows (F := Ideal) g o y (ix2 i n) = o (ix2 i n) + ∑ t : Fin 208, g (ix2 i t) * y (ix2 t n) := by
  pointwise [addRows]

/-- The four in the order in which a device adds them. -/
theorem sum_order (f : Fin 4 → EReal) : ∀ c : Dev nD, f c + f (src 0 c) + f (src 1 c) + f (src 2 c) = ∑ d : Fin 4, f d := by
  intro c
  rw [Fin.sum_univ_four]
  match c with
  | 0 => show f 0 + f 3 + f 1 + f 2 = _; abel
  | 1 => show f 1 + f 0 + f 2 + f 3 = _; abel
  | 2 => show f 2 + f 1 + f 3 + f 0 = _; abel
  | 3 => show f 3 + f 2 + f 0 + f 1 = _; abel

/-- The output of device `c` after `j` of the others' parts, at an element. -/
def outE (c : Dev nD) (j : ℕ) (i : Fin 1024) (n : Fin 512) : EReal := (outAt m ρ c j : FVec Ideal S1024x512 .f32) (ix2 i n)

/-- Every device's output is the result, at every element. -/
theorem out_apply (hx : ∀ c : Dev nD, xAt m ρ c = x) (hi : ∀ c : Dev nD, iAt m ρ c = idx)
    (hw : ∀ c : Dev nD, wAt m ρ c = (Layout.block ⟨3, ![4, 256, 512]⟩ ⟨3, ![16, 256, 512]⟩ 0 4 c W : Vec Ideal S4x256x512 .f32))
    (c : Dev nD) (i : Fin 1024) (n : Fin 512) : outE m ρ c 3 i n = moe x idx W i n := by
  have hy : ∀ d : Dev nD, yAt m ρ d = rowsOf (F := Ideal) (BitVec.ofNat 32 d.val) idx x (Layout.block ⟨3, ![4, 256, 512]⟩ ⟨3, ![16, 256, 512]⟩ 0 4 d W) := fun d => by
    unfold yAt
    rw [wd_eq, hx, hi, hw]
  have h0 : outE m ρ c 0 i n = part x idx W c i n := by
    show k0_pay14 (pick (wd c) (iAt m ρ c)) (yAt m ρ c) (ix2 i n) = _
    rw [own_apply, hy, wd_eq, hi]; rfl
  have hs : ∀ j : ℕ, outE m ρ c (j + 1) i n = outE m ρ c j i n + part x idx W (src (Fin.ofNat 3 j) c) i n := fun j => by
    show addRows (pick (wdSrc (Fin.ofNat 3 j) c) (iAt m ρ c)) (outAt m ρ c j) (yAt m ρ (src (Fin.ofNat 3 j) c)) (ix2 i n) = _
    rw [add_apply, hy, wdSrc_eq, hi]; rfl
  rw [hs 2, hs 1, hs 0, h0, ← sum_parts]
  exact sum_order (fun d => part x idx W d i n) c

end Cert.MoeProof

end
-- ==== Proof.Ref.lean ====
/-
# The reference's result, element by element

The reference counts the tokens of each expert by a running sum of words, and then goes through the sixteen experts,
replacing the rows of the tokens that an expert serves.  No token is served by two experts, so the replacements add up
to the sum over the experts.
-/
module

public import proofs.«01_k».proof.Proof.Gen.ReferenceIdeal.Run
public import proofs.«01_k».proof.Proof.Rows
public import Idealize.ShloMosaic.Lib.Routing.OpsOne

@[expose] public section

noncomputable section

namespace Cert.MoeProof.Ref

open Cert.ReferenceIdeal Cert.ReferenceIdeal.Gen Cert.MoeProof
open Idealize.ShloMosaic
open Idealize.ShloMosaic.TcCoe

/-- Which expert each token is routed to, as bits. -/
def chosen (idx : IVec S1024x1 32) : IVec S1024x16 1 :=
  cmpi .eq (broadcastInDim S1024x16 ![0, 1] bcast_S1024x1_S1024x16_0_1 idx)
    (broadcastInDim S1024x16 ![0, 1] bcast_S1x16_S1024x16_0_1 (broadcastInDim S1x16 ![1] bcast_S16_S1x16_1 (iotaInDim S16 32 0)))

/-- The running counts. -/
def counts (idx : IVec S1024x1 32) : IVec S1024x16 32 :=
  Host.reduceWindow IntOp.addi ![1024, 1] ![1, 1] ![1023, 0] ![0, 0] (extui 32 (chosen idx) natLt_1_32)
    (broadcastInDim S_ ![] bcast_S_S_ (constantI S_ 32 0#32)) reduceWindows_S1024x16_S1024x16_w1024s1p1023_0_w1s1p0_0 h_S_

/-- Which expert serves each token, as bits. -/
def served (idx : IVec S1024x1 32) : IVec S1024x16 1 :=
  andi (chosen idx) (cmpi .sle (counts idx) (broadcastInDim S1024x16 ![] bcast_S_S1024x16 (constantI S_ 32 51#32)))

/-- One expert's rows replaced. -/
def layer (x : FVec Ideal S1024x256 .f32) (idx : IVec S1024x1 32) (W : FVec Ideal S16x256x512 .f32) (e : ℕ)
    (hs : S1024x16.Slices ![0, e] S1024x1) (hw : S16x256x512.Slices ![e, 0, 0] S1x256x512) (o : FVec Ideal S1024x512 .f32) :
    FVec Ideal S1024x512 .f32 :=
  select (broadcastInDim S1024x512 ![0, 1] bcast_S1024x1_S1024x512_0_1 (extractStridedSlice S1024x1 ![0, e] (served idx) hs))
    (Host.dotGeneral dot_S1024x256_S256x512_S1024x512_1_0_0_1_n_n none x
      (shapeCast S256x512 (extractStridedSlice S1x256x512 ![e, 0, 0] W hw) shapeCasts_S1x256x512_S256x512)) o

theorem chosen_apply (idx : IVec S1024x1 32) (i : Fin 1024) (e : Fin 16) :
    chosen idx (ix2 i e) = BitVec.ofBool (idx (ix2 i 0) == BitVec.ofNat 32 e.val) := by
  pointwise [chosen]
  rfl

theorem sum_words {α : Type} (s : Finset α) (p : α → Prop) [DecidablePred p] :
    ∑ r ∈ s, (if p r then 1#32 else 0) = BitVec.ofNat 32 (s.filter p).card := by
  rw [Finset.sum_ite, Finset.sum_const, Finset.sum_const_zero, add_zero]
  induction (s.filter p).card with
  | zero => rfl
  | succ k ih => rw [succ_nsmul, ih, BitVec.ofNat_add]

/-- A token's running count is its place. -/
theorem counts_apply (idx : IVec S1024x1 32) (i : Fin 1024) (e : Fin 16) (h : toks idx i = BitVec.ofNat 32 e.val) :
    counts idx (ix2 i e) = BitVec.ofNat 32 (cnt (toks idx) i) := by
  refine (Routing.cumsum_rows_sum (A := 1024) (Am1 := 1023) (N := 16) rfl (extui 32 (chosen idx) natLt_1_32) _ (by pointwise) _ _ i e).trans ?_
  have hb : ∀ r : Fin 1024, (if r ≤ i then (extui 32 (chosen idx) natLt_1_32 : IVec S1024x16 32) (ix2 r e) else 0)
      = if r ≤ i ∧ toks idx r = toks idx i then 1#32 else 0 := fun r => by
    rw [ite_and]
    refine if_congr Iff.rfl ?_ rfl
    show (chosen idx (ix2 r e)).setWidth 32 = _
    rw [chosen_apply, h]
    by_cases hr : idx (ix2 r 0) = BitVec.ofNat 32 e.val
    · rw [beq_iff_eq.2 hr, if_pos hr]; rfl
    · rw [beq_eq_false_iff_ne.2 hr, if_neg hr]; rfl
  refine (Finset.sum_congr rfl fun r _ => hb r).trans ?_
  rw [sum_words]
  rfl

theorem cnt_le (ι : Fin 1024 → BitVec 32) (i : Fin 1024) : cnt ι i ≤ 1024 :=
  (Finset.card_le_univ _).trans (Fintype.card_fin _).le

theorem sle_cap (k : ℕ) (hk : k ≤ 1024) : (BitVec.ofNat 32 k).sle 51#32 = decide (k ≤ 51) := by
  rw [BitVec.sle_eq_decide, BitVec.toInt_ofNat']
  refine decide_eq_decide.2 ?_
  rw [Int.bmod_eq_of_le (by omega) (by omega), show (51#32).toInt = 51 from rfl]
  omega

/-- The bit says that the expert serves the token. -/
theorem served_apply (idx : IVec S1024x1 32) (i : Fin 1024) (e : Fin 16) :
    served idx (ix2 i e) = 1#1 ↔ Served (toks idx) i e.val := by
  have hs : served idx (ix2 i e) = chosen idx (ix2 i e) &&& BitVec.ofBool ((counts idx (ix2 i e)).sle 51#32) := by
    pointwise [served]
    rfl
  rw [hs, chosen_apply, BitVec.ofBool_and_ofBool]
  unfold Served
  by_cases h : toks idx i = BitVec.ofNat 32 e.val
  · rw [counts_apply idx i e h, sle_cap _ (cnt_le _ _), beq_iff_eq.2 h, Bool.true_and]
    by_cases hc : cnt (toks idx) i ≤ 51 <;> simp [hc, h]
  · rw [beq_eq_false_iff_ne.2 h, Bool.false_and]
    simp [h]

open Classical in
theorem layer_apply (x : FVec Ideal S1024x256 .f32) (idx : IVec S1024x1 32) (W : FVec Ideal S16x256x512 .f32) (e : Fin 16)
    (hs : S1024x16.Slices ![0, e.val] S1024x1) (hw : S16x256x512.Slices ![e.val, 0, 0] S1x256x512) (o : FVec Ideal S1024x512 .f32)
    (i : Fin 1024) (n : Fin 512) :
    layer x idx W e.val hs hw o (ix2 i n) = if Served (toks idx) i e.val then prod x W i n e.val else o (ix2 i n) := by
  pointwise [layer]
  unfold prod
  rw [dif_pos e.isLt]
  exact if_congr (served_apply idx i e) rfl rfl

open Classical in
theorem layer_at (x : FVec Ideal S1024x256 .f32) (idx : IVec S1024x1 32) (W : FVec Ideal S16x256x512 .f32) (e : ℕ) (he : e < 16)
    (hs : S1024x16.Slices ![0, e] S1024x1) (hw : S16x256x512.Slices ![e, 0, 0] S1x256x512) (o : FVec Ideal S1024x512 .f32)
    (i : Fin 1024) (n : Fin 512) :
    layer x idx W e hs hw o (ix2 i n) = if Served (toks idx) i e then prod x W i n e else o (ix2 i n) :=
  layer_apply x idx W ⟨e, he⟩ hs hw o i n

open Classical in
/-- Replacing, expert after expert, from zero. -/
def chain (S : ℕ → Prop) (P : ℕ → EReal) : ℕ → EReal
  | 0 => 0
  | k + 1 => if S k then P k else chain S P k

open Classical in
/-- If no two of the conditions hold together, replacing is adding. -/
theorem chain_eq (S : ℕ → Prop) (P : ℕ → EReal) (N : ℕ) (h : ∀ a < N, ∀ b < N, S a → S b → a = b) :
    ∀ k ≤ N, chain S P k = ∑ e ∈ Finset.range k, if S e then P e else 0
  | 0, _ => rfl
  | k + 1, hk => by
    rw [Finset.sum_range_succ, ← chain_eq S P N h k (by omega)]
    show (if S k then P k else chain S P k) = _
    split_ifs with hS
    · rw [chain_eq S P N h k (by omega), Finset.sum_eq_zero, zero_add]
      intro e he
      have he' := Finset.mem_range.1 he
      exact if_neg fun hS' => absurd (h e (by omega) k (by omega) hS' hS) (by omega)
    · rw [add_zero]

/-- The sixteen replacements. -/
def layers (x : FVec Ideal S1024x256 .f32) (idx : IVec S1024x1 32) (W : FVec Ideal S16x256x512 .f32) : FVec Ideal S1024x512 .f32 :=
    layer x idx W 15 slices_S1024x16_S1024x1_0_15 slices_S16x256x512_S1x256x512_15_0_0 <|
    layer x idx W 14 slices_S1024x16_S1024x1_0_14 slices_S16x256x512_S1x256x512_14_0_0 <|
    layer x idx W 13 slices_S1024x16_S1024x1_0_13 slices_S16x256x512_S1x256x512_13_0_0 <|
    layer x idx W 12 slices_S1024x16_S1024x1_0_12 slices_S16x256x512_S1x256x512_12_0_0 <|
    layer x idx W 11 slices_S1024x16_S1024x1_0_11 slices_S16x256x512_S1x256x512_11_0_0 <|
    layer x idx W 10 slices_S1024x16_S1024x1_0_10 slices_S16x256x512_S1x256x512_10_0_0 <|
    layer x idx W 9 slices_S1024x16_S1024x1_0_9 slices_S16x256x512_S1x256x512_9_0_0 <|
    layer x idx W 8 slices_S1024x16_S1024x1_0_8 slices_S16x256x512_S1x256x512_8_0_0 <|
    layer x idx W 7 slices_S1024x16_S1024x1_0_7 slices_S16x256x512_S1x256x512_7_0_0 <|
    layer x idx W 6 slices_S1024x16_S1024x1_0_6 slices_S16x256x512_S1x256x512_6_0_0 <|
    layer x idx W 5 slices_S1024x16_S1024x1_0_5 slices_S16x256x512_S1x256x512_5_0_0 <|
    layer x idx W 4 slices_S1024x16_S1024x1_0_4 slices_S16x256x512_S1x256x512_4_0_0 <|
    layer x idx W 3 slices_S1024x16_S1024x1_0_3 slices_S16x256x512_S1x256x512_3_0_0 <|
    layer x idx W 2 slices_S1024x16_S1024x1_0_2 slices_S16x256x512_S1x256x512_2_0_0 <|
    layer x idx W 1 slices_S1024x16_S1024x1_0_1 slices_S16x256x512_S1x256x512_1_0_0 <|
    layer x idx W 0 slices_S1024x16_S1024x1_0_0 slices_S16x256x512_S1x256x512_0_0_0 <|
      broadcastInDim S1024x512 ![] bcast_S_S1024x512 (constant S_ .f32 0x00000000#32)

theorem layers_apply (x : FVec Ideal S1024x256 .f32) (idx : IVec S1024x1 32) (W : FVec Ideal S16x256x512 .f32) (i : Fin 1024) (n : Fin 512) :
    layers x idx W (ix2 i n) = moe x idx W i n := by
  classical
  have hz : (broadcastInDim S1024x512 ![] bcast_S_S1024x512 (constant S_ .f32 0x00000000#32) : FVec Ideal S1024x512 .f32) (ix2 i n) = 0 := by
    pointwise
  have hc : layers x idx W (ix2 i n) = chain (fun e => Served (toks idx) i e) (fun e => prod x W i n e) 16 := by
    unfold layers
    rw [layer_at x idx W 15 (by decide), layer_at x idx W 14 (by decide), layer_at x idx W 13 (by decide), layer_at x idx W 12 (by decide),
      layer_at x idx W 11 (by decide), layer_at x idx W 10 (by decide), layer_at x idx W 9 (by decide), layer_at x idx W 8 (by decide),
      layer_at x idx W 7 (by decide), layer_at x idx W 6 (by decide), layer_at x idx W 5 (by decide), layer_at x idx W 4 (by decide),
      layer_at x idx W 3 (by decide), layer_at x idx W 2 (by decide), layer_at x idx W 1 (by decide), layer_at x idx W 0 (by decide), hz]
    rfl
  rw [hc, chain_eq _ _ 16 (fun a ha b hb h h' => congrArg Fin.val (expert_inj ⟨a, ha⟩ ⟨b, hb⟩ (h.1.symm.trans h'.1))) 16 le_rfl]
  unfold moe
  rw [Finset.sum_range]

/-- The reference's result. -/
theorem res_eq (m : (ℓ : Loc nD τ sig) → Buf (Elt Ideal) ℓ) (c : Dev nD) :
    Value.res_out0 m c = layers (m ((c.tc : Thread nD τ).loc main_arg0)) (m ((c.tc : Thread nD τ).loc main_arg2)) (m ((c.tc : Thread nD τ).loc main_arg3)) := by
  show Value.res_main_v90 m c = _
  unfold Value.res_main_v90 layers layer served counts chosen
  rfl

end Cert.MoeProof.Ref

end
-- ==== Proof.Value.lean ====
/-
# The kernel computes what the reference computes

Both are the sum over the experts of `Rows.lean`, at every element and on every device.
-/
module

public import proofs.«01_k».proof.Defs
public import proofs.«01_k».proof.Proof.Out
public import proofs.«01_k».proof.Proof.Ref

@[expose] public section

noncomputable section

namespace Cert.MoeProof

open Cert.KernelIdeal.Gen Cert.ReferenceIdeal.Gen
open Idealize.ShloMosaic Idealize.SL.Sem
open Idealize.ShloMosaic.TcCoe

/-- From equal arguments, a device's output array ends at the reference's result. -/
theorem out_eq (m : (ℓ : Loc Cert.KernelIdeal.nD Cert.KernelIdeal.τ Cert.KernelIdeal.sig) → Buf (Elt Ideal) ℓ) (ρ : Dev Cert.KernelIdeal.nD → PrngReg)
    (x : Vec Ideal Cert.KernelIdeal.S1024x256 .f32) (idx : Vec Ideal Cert.KernelIdeal.S1024x1 .i32) (W : Experts)
    (h : ∀ c : Dev Cert.KernelIdeal.nD, m ((c : Thread Cert.KernelIdeal.nD Cert.KernelIdeal.τ).loc Cert.KernelIdeal.main_arg0) = x
      ∧ m ((c : Thread Cert.KernelIdeal.nD Cert.KernelIdeal.τ).loc Cert.KernelIdeal.main_arg2) = idx
      ∧ m ((c : Thread Cert.KernelIdeal.nD Cert.KernelIdeal.τ).loc Cert.KernelIdeal.main_arg3)
        = Layout.block ⟨3, ![4, 256, 512]⟩ ⟨3, ![16, 256, 512]⟩ 0 4 c W)
    (c : Dev Cert.KernelIdeal.nD) : (outAt m ρ c 3 : Vec Ideal Cert.KernelIdeal.S1024x512 .f32) = Ref.layers x idx W := by
  funext j
  obtain ⟨i, n, rfl⟩ : ∃ (i : Fin 1024) (n : Fin 512), j = ix2 i n := ⟨j 0, j 1, eq_ix2 j⟩
  rw [Ref.layers_apply]
  exact out_apply m ρ x idx W (fun d => (xAt_eq m ρ d).trans (h d).1) (fun d => (iAt_eq m ρ d).trans (h d).2.1)
    (fun d => (wAt_eq m ρ d).trans (h d).2.2) c i n

theorem algebraic : Cert.algebraic_KernelIdeal_ReferenceIdeal := by
  intro m g m' g' _ h
  refine ⟨Cert.ReferenceIdeal.Value.res_out0 m' 0, ?_, ?_⟩
  · refine (θ_run Cert.KernelIdeal.defs _ _).mono (fun r hr c => ⟨?_, kept m g hr.1 c⟩) (run_main m g)
    have ho := out_eq m g _ _ _ (fun d => ⟨(h d).1, (h d).2.2.1, (h d).2.2.2⟩) c
    exact (((hr.1 c).1 (3 : Fin 4)).trans (final_out m g c)).trans (ho.trans (Ref.res_eq m' 0).symm)
  · exact (θ_run Cert.ReferenceIdeal.defs _ _).mono (fun r hr => hr 0) (Cert.ReferenceIdeal.Value.run (F := Ideal) m' g')

end Cert.MoeProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The idealized kernel's run keeps its arguments and ends with every counter at zero. -/
theorem frame_kernelIdeal : Cert.quiescent_KernelIdeal := fun m ρ _ => Cert.MoeProof.frame_any (F := Ideal) m ρ

/-- The one body of the two programs is the same text. -/
theorem bodies_eq : Cert.KernelIdeal.defs₀ (F := Bits) = Cert.Kernel.defs₀ (F := Bits) :=
  congrArg Defs.onTc (funext fun l => match l with
    | 0 => rfl
    | ⟨_ + 1, h⟩ => absurd h (Nat.not_lt.2 (Nat.le_add_left _ _)))

theorem defs_eq : Cert.KernelIdeal.defs (F := Bits) = Cert.Kernel.defs (F := Bits) :=
  congrArg (Pipeline.defs Cert.KernelIdeal.pcfgs) bodies_eq

/-- So the same run serves the kernel as printed, at the chip's floats. -/
theorem frame_kernel : Cert.quiescent_Kernel := fun m ρ _ => by
  have h := Cert.MoeProof.frame_any (F := Bits) m ρ
  rw [defs_eq] at h
  exact h

/-- The reference is a host program without semaphores. -/
theorem frame_referenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  frame_kernel, frame_kernelIdeal, frame_referenceIdeal, trivial, Cert.MoeProof.algebraic⟩

end Cert.Proof

end
